-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S32x128x4096 : Shape := ⟨3, ![32, 128, 4096]⟩
abbrev S16x2 : Shape := ⟨2, ![16, 2]⟩
abbrev S_ : Shape := ⟨0, ![]⟩
abbrev S1x128x4096 : Shape := ⟨3, ![1, 128, 4096]⟩
abbrev S1x1 : Shape := ⟨2, ![1, 1]⟩
abbrev S1x64x4096 : Shape := ⟨3, ![1, 64, 4096]⟩
abbrev S64x4096 : Shape := ⟨2, ![64, 4096]⟩
abbrev S128x64 : Shape := ⟨2, ![128, 64]⟩

abbrev nBuf : Space → Nat
  | .hbm => 3
  | .vmem => 4
  | .smem => 0
  | _ => 0

abbrev bufTy : (tb : Table) → Fin (tcTables nBuf tb) → BufTy
  | .hbm, ⟨0, _⟩ => ⟨S128x4096, .bf16⟩
  | .hbm, ⟨1, _⟩ => ⟨S4096x64, .bf16⟩
  | .hbm, ⟨2, _⟩ => ⟨S4096x64, .f32⟩
  | .local _ .vmem, ⟨0, _⟩ => ⟨S128x4096, .bf16⟩
  | .local _ .vmem, ⟨1, _⟩ => ⟨S4096x64, .bf16⟩
  | .local _ .vmem, ⟨2, _⟩ => ⟨S4096x64, .f32⟩
  | .local _ .vmem, ⟨3, _⟩ => ⟨S32x128x4096, .bf16⟩
  | _, _ => ⟨S128x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_72 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_71 : BitVec 32 := 1#32
  let v143 : BitVec 32 := Scalar.muli v141 c1_i32_71
  let v144 : BitVec 32 := Scalar.addi c0_i32_72 v143
  v144.toNat
def k0_dev2 (d0 : Dev nD) : Nat :=
  let c0_i32_75 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_74 : BitVec 32 := 1#32
  let v145 : BitVec 32 := Scalar.muli v103 c1_i32_74
  let v146 : BitVec 32 := Scalar.addi c0_i32_75 v145
  v146.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v149 : Index := Scalar.indexCast v2
  let c0_78 : Index := 0#32
  let c0_79 : Index := 0#32
  ![v149.toNat, 0, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_86 : BitVec 32 := 0#32
  let c0_i32_87 : BitVec 32 := 0#32
  ![v2.toNat, 0, 0]
def k0_dev3 (d0 : Dev nD) : Nat :=
  let c0_i32_85 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_84 : BitVec 32 := 1#32
  let v153 : BitVec 32 := Scalar.muli v103 c1_i32_84
  let v154 : BitVec 32 := Scalar.addi c0_i32_85 v153
  v154.toNat
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let c0_i32_96 : BitVec 32 := 0#32
  ![v2.toNat, 64, 0]
def k0_dev4 (d0 : Dev nD) : Nat :=
  let c0_i32_95 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_94 : BitVec 32 := 1#32
  let v163 : BitVec 32 := Scalar.muli v103 c1_i32_94
  let v164 : BitVec 32 := Scalar.addi c0_i32_95 v163
  v164.toNat
def k0_dev5 (d0 : Dev nD) : Nat :=
  let c0_i32_104 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_103 : BitVec 32 := 1#32
  let v173 : BitVec 32 := Scalar.muli v141 c1_i32_103
  let v174 : BitVec 32 := Scalar.addi c0_i32_104 v173
  v174.toNat
def k0_dev6 (d0 : Dev nD) : Nat :=
  let c0_i32_114 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_113 : BitVec 32 := 1#32
  let v183 : BitVec 32 := Scalar.muli v141 c1_i32_113
  let v184 : BitVec 32 := Scalar.addi c0_i32_114 v183
  v184.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_124 : BitVec 32 := 128#32
  let v201 : BitVec 32 := Scalar.muli v2 c128_i32_124
  let v202 : Index := Scalar.indexCast v201
  let c0_125 : Index := 0#32
  ![v202.toNat, 0]
def k0_off5 (d0 : Dev nD) (c0_i32_126 : BitVec 32) : Fin 3 → Nat :=
  let c8_i32_150 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let v204 : BitVec 32 := Scalar.subi v65 c0_i32_126
  let c1_i32_127 : BitVec 32 := 1#32
  let v205 : BitVec 32 := Scalar.subi v204 c1_i32_127
  let c128_i32_128 : BitVec 32 := 128#32
  let v206 : BitVec 32 := Scalar.addi v205 c128_i32_128
  let c32_i32_129 : BitVec 32 := 32#32
  let v207 : BitVec 32 := Scalar.remsi v206 c32_i32_129
  let c16_i32_130 : BitVec 32 := 16#32
  let v208 : BitVec 1 := Scalar.cmpi .slt v207 c16_i32_130
  let c31_i32_131 : BitVec 32 := 31#32
  let v209 : BitVec 32 := Scalar.subi c31_i32_131 v207
  let v210 : BitVec 32 := Scalar.select v208 v207 v209
  let c0_i32_136 : BitVec 32 := 0#32
  let v214 : BitVec 1 := Scalar.cmpi .sgt v210 c0_i32_136
  let v215 : BitVec 32 := Scalar.extui v214
  let c0_i32_137 : BitVec 32 := 0#32
  let v216 : BitVec 1 := Scalar.cmpi .slt v210 c0_i32_137
  let v217 : BitVec 32 := Scalar.extui v216
  let v218 : BitVec 32 := Scalar.subi v215 v217
  let c4_i32_135 : BitVec 32 := 4#32
  let c0_i32_138 : BitVec 32 := 0#32
  let v219 : BitVec 1 := Scalar.cmpi .sgt c4_i32_135 c0_i32_138
  let v220 : BitVec 32 := Scalar.extui v219
  let c0_i32_139 : BitVec 32 := 0#32
  let v221 : BitVec 1 := Scalar.cmpi .slt c4_i32_135 c0_i32_139
  let v222 : BitVec 32 := Scalar.extui v221
  let v223 : BitVec 32 := Scalar.subi v220 v222
  let v224 : BitVec 1 := Scalar.cmpi .ne v218 v223
  let v225 : BitVec 32 := Scalar.remsi v210 c4_i32_135
  let c0_i32_140 : BitVec 32 := 0#32
  let v226 : BitVec 1 := Scalar.cmpi .ne v225 c0_i32_140
  let v227 : BitVec 1 := Scalar.andi v224 v226
  let v213 : BitVec 32 := Scalar.divsi v210 c4_i32_135
  let c1_i32_141 : BitVec 32 := 1#32
  let v228 : BitVec 32 := Scalar.subi v213 c1_i32_141
  let v229 : BitVec 32 := Scalar.select v227 v228 v213
  let v241 : BitVec 32 := Scalar.muli c8_i32_150 v229
  let c2_i32_146 : BitVec 32 := 2#32
  let c2_i32_143 : BitVec 32 := 2#32
  let v231 : BitVec 32 := Scalar.remsi v229 c2_i32_143
  let c0_i32_144 : BitVec 32 := 0#32
  let v232 : BitVec 1 := Scalar.cmpi .eq v231 c0_i32_144
  let c4_i32_142 : BitVec 32 := 4#32
  let v230 : BitVec 32 := Scalar.remsi v210 c4_i32_142
  let c3_i32_145 : BitVec 32 := 3#32
  let v233 : BitVec 32 := Scalar.subi c3_i32_145 v230
  let v234 : BitVec 32 := Scalar.select v232 v230 v233
  let v235 : BitVec 32 := Scalar.muli c2_i32_146 v234
  let c2_i32_147 : BitVec 32 := 2#32
  let v236 : BitVec 32 := Scalar.remsi v234 c2_i32_147
  let c0_i32_148 : BitVec 32 := 0#32
  let v237 : BitVec 1 := Scalar.cmpi .eq v236 c0_i32_148
  let c16_i32_132 : BitVec 32 := 16#32
  let v211 : BitVec 1 := Scalar.cmpi .slt v207 c16_i32_132
  let c0_i32_133 : BitVec 32 := 0#32
  let c1_i32_134 : BitVec 32 := 1#32
  let v212 : BitVec 32 := Scalar.select v211 c0_i32_133 c1_i32_134
  let c1_i32_149 : BitVec 32 := 1#32
  let v238 : BitVec 32 := Scalar.subi c1_i32_149 v212
  let v239 : BitVec 32 := Scalar.select v237 v212 v238
  let v240 : BitVec 32 := Scalar.addi v235 v239
  let v242 : BitVec 32 := Scalar.addi v241 v240
  let c0_i32_182 : BitVec 32 := 0#32
  let c0_i32_183 : BitVec 32 := 0#32
  ![v242.toNat, 0, 0]
def k0_dev7 (d0 : Dev nD) : Nat :=
  let c0_i32_191 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_190 : BitVec 32 := 1#32
  let v290 : BitVec 32 := Scalar.muli v103 c1_i32_190
  let v291 : BitVec 32 := Scalar.addi c0_i32_191 v290
  v291.toNat
def k0_off6 (d0 : Dev nD) (c0_i32_126 : BitVec 32) : Fin 3 → Nat :=
  let c8_i32_150 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let v204 : BitVec 32 := Scalar.subi v65 c0_i32_126
  let c1_i32_127 : BitVec 32 := 1#32
  let v205 : BitVec 32 := Scalar.subi v204 c1_i32_127
  let c128_i32_128 : BitVec 32 := 128#32
  let v206 : BitVec 32 := Scalar.addi v205 c128_i32_128
  let c32_i32_129 : BitVec 32 := 32#32
  let v207 : BitVec 32 := Scalar.remsi v206 c32_i32_129
  let c16_i32_130 : BitVec 32 := 16#32
  let v208 : BitVec 1 := Scalar.cmpi .slt v207 c16_i32_130
  let c31_i32_131 : BitVec 32 := 31#32
  let v209 : BitVec 32 := Scalar.subi c31_i32_131 v207
  let v210 : BitVec 32 := Scalar.select v208 v207 v209
  let c0_i32_136 : BitVec 32 := 0#32
  let v214 : BitVec 1 := Scalar.cmpi .sgt v210 c0_i32_136
  let v215 : BitVec 32 := Scalar.extui v214
  let c0_i32_137 : BitVec 32 := 0#32
  let v216 : BitVec 1 := Scalar.cmpi .slt v210 c0_i32_137
  let v217 : BitVec 32 := Scalar.extui v216
  let v218 : BitVec 32 := Scalar.subi v215 v217
  let c4_i32_135 : BitVec 32 := 4#32
  let c0_i32_138 : BitVec 32 := 0#32
  let v219 : BitVec 1 := Scalar.cmpi .sgt c4_i32_135 c0_i32_138
  let v220 : BitVec 32 := Scalar.extui v219
  let c0_i32_139 : BitVec 32 := 0#32
  let v221 : BitVec 1 := Scalar.cmpi .slt c4_i32_135 c0_i32_139
  let v222 : BitVec 32 := Scalar.extui v221
  let v223 : BitVec 32 := Scalar.subi v220 v222
  let v224 : BitVec 1 := Scalar.cmpi .ne v218 v223
  let v225 : BitVec 32 := Scalar.remsi v210 c4_i32_135
  let c0_i32_140 : BitVec 32 := 0#32
  let v226 : BitVec 1 := Scalar.cmpi .ne v225 c0_i32_140
  let v227 : BitVec 1 := Scalar.andi v224 v226
  let v213 : BitVec 32 := Scalar.divsi v210 c4_i32_135
  let c1_i32_141 : BitVec 32 := 1#32
  let v228 : BitVec 32 := Scalar.subi v213 c1_i32_141
  let v229 : BitVec 32 := Scalar.select v227 v228 v213
  let v241 : BitVec 32 := Scalar.muli c8_i32_150 v229
  let c2_i32_146 : BitVec 32 := 2#32
  let c2_i32_143 : BitVec 32 := 2#32
  let v231 : BitVec 32 := Scalar.remsi v229 c2_i32_143
  let c0_i32_144 : BitVec 32 := 0#32
  let v232 : BitVec 1 := Scalar.cmpi .eq v231 c0_i32_144
  let c4_i32_142 : BitVec 32 := 4#32
  let v230 : BitVec 32 := Scalar.remsi v210 c4_i32_142
  let c3_i32_145 : BitVec 32 := 3#32
  let v233 : BitVec 32 := Scalar.subi c3_i32_145 v230
  let v234 : BitVec 32 := Scalar.select v232 v230 v233
  let v235 : BitVec 32 := Scalar.muli c2_i32_146 v234
  let c2_i32_147 : BitVec 32 := 2#32
  let v236 : BitVec 32 := Scalar.remsi v234 c2_i32_147
  let c0_i32_148 : BitVec 32 := 0#32
  let v237 : BitVec 1 := Scalar.cmpi .eq v236 c0_i32_148
  let c16_i32_132 : BitVec 32 := 16#32
  let v211 : BitVec 1 := Scalar.cmpi .slt v207 c16_i32_132
  let c0_i32_133 : BitVec 32 := 0#32
  let c1_i32_134 : BitVec 32 := 1#32
  let v212 : BitVec 32 := Scalar.select v211 c0_i32_133 c1_i32_134
  let c1_i32_149 : BitVec 32 := 1#32
  let v238 : BitVec 32 := Scalar.subi c1_i32_149 v212
  let v239 : BitVec 32 := Scalar.select v237 v212 v238
  let v240 : BitVec 32 := Scalar.addi v235 v239
  let v242 : BitVec 32 := Scalar.addi v241 v240
  let c64_i32_202 : BitVec 32 := 64#32
  let c0_i32_203 : BitVec 32 := 0#32
  ![v242.toNat, 64, 0]
def k0_dev8 (d0 : Dev nD) : Nat :=
  let c0_i32_211 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_210 : BitVec 32 := 1#32
  let v308 : BitVec 32 := Scalar.muli v103 c1_i32_210
  let v309 : BitVec 32 := Scalar.addi c0_i32_211 v308
  v309.toNat
def k0_off7 (d0 : Dev nD) (c0_i32_151 : BitVec 32) : Fin 3 → Nat :=
  let c8_i32_175 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let v243 : BitVec 32 := Scalar.addi v65 c0_i32_151
  let c1_i32_152 : BitVec 32 := 1#32
  let v244 : BitVec 32 := Scalar.addi v243 c1_i32_152
  let c128_i32_153 : BitVec 32 := 128#32
  let v245 : BitVec 32 := Scalar.addi v244 c128_i32_153
  let c32_i32_154 : BitVec 32 := 32#32
  let v246 : BitVec 32 := Scalar.remsi v245 c32_i32_154
  let c16_i32_155 : BitVec 32 := 16#32
  let v247 : BitVec 1 := Scalar.cmpi .slt v246 c16_i32_155
  let c31_i32_156 : BitVec 32 := 31#32
  let v248 : BitVec 32 := Scalar.subi c31_i32_156 v246
  let v249 : BitVec 32 := Scalar.select v247 v246 v248
  let c0_i32_161 : BitVec 32 := 0#32
  let v253 : BitVec 1 := Scalar.cmpi .sgt v249 c0_i32_161
  let v254 : BitVec 32 := Scalar.extui v253
  let c0_i32_162 : BitVec 32 := 0#32
  let v255 : BitVec 1 := Scalar.cmpi .slt v249 c0_i32_162
  let v256 : BitVec 32 := Scalar.extui v255
  let v257 : BitVec 32 := Scalar.subi v254 v256
  let c4_i32_160 : BitVec 32 := 4#32
  let c0_i32_163 : BitVec 32 := 0#32
  let v258 : BitVec 1 := Scalar.cmpi .sgt c4_i32_160 c0_i32_163
  let v259 : BitVec 32 := Scalar.extui v258
  let c0_i32_164 : BitVec 32 := 0#32
  let v260 : BitVec 1 := Scalar.cmpi .slt c4_i32_160 c0_i32_164
  let v261 : BitVec 32 := Scalar.extui v260
  let v262 : BitVec 32 := Scalar.subi v259 v261
  let v263 : BitVec 1 := Scalar.cmpi .ne v257 v262
  let v264 : BitVec 32 := Scalar.remsi v249 c4_i32_160
  let c0_i32_165 : BitVec 32 := 0#32
  let v265 : BitVec 1 := Scalar.cmpi .ne v264 c0_i32_165
  let v266 : BitVec 1 := Scalar.andi v263 v265
  let v252 : BitVec 32 := Scalar.divsi v249 c4_i32_160
  let c1_i32_166 : BitVec 32 := 1#32
  let v267 : BitVec 32 := Scalar.subi v252 c1_i32_166
  let v268 : BitVec 32 := Scalar.select v266 v267 v252
  let v280 : BitVec 32 := Scalar.muli c8_i32_175 v268
  let c2_i32_171 : BitVec 32 := 2#32
  let c2_i32_168 : BitVec 32 := 2#32
  let v270 : BitVec 32 := Scalar.remsi v268 c2_i32_168
  let c0_i32_169 : BitVec 32 := 0#32
  let v271 : BitVec 1 := Scalar.cmpi .eq v270 c0_i32_169
  let c4_i32_167 : BitVec 32 := 4#32
  let v269 : BitVec 32 := Scalar.remsi v249 c4_i32_167
  let c3_i32_170 : BitVec 32 := 3#32
  let v272 : BitVec 32 := Scalar.subi c3_i32_170 v269
  let v273 : BitVec 32 := Scalar.select v271 v269 v272
  let v274 : BitVec 32 := Scalar.muli c2_i32_171 v273
  let c2_i32_172 : BitVec 32 := 2#32
  let v275 : BitVec 32 := Scalar.remsi v273 c2_i32_172
  let c0_i32_173 : BitVec 32 := 0#32
  let v276 : BitVec 1 := Scalar.cmpi .eq v275 c0_i32_173
  let c16_i32_157 : BitVec 32 := 16#32
  let v250 : BitVec 1 := Scalar.cmpi .slt v246 c16_i32_157
  let c0_i32_158 : BitVec 32 := 0#32
  let c1_i32_159 : BitVec 32 := 1#32
  let v251 : BitVec 32 := Scalar.select v250 c0_i32_158 c1_i32_159
  let c1_i32_174 : BitVec 32 := 1#32
  let v277 : BitVec 32 := Scalar.subi c1_i32_174 v251
  let v278 : BitVec 32 := Scalar.select v276 v251 v277
  let v279 : BitVec 32 := Scalar.addi v274 v278
  let v281 : BitVec 32 := Scalar.addi v280 v279
  let c0_i32_222 : BitVec 32 := 0#32
  let c0_i32_223 : BitVec 32 := 0#32
  ![v281.toNat, 0, 0]
def k0_dev9 (d0 : Dev nD) : Nat :=
  let c0_i32_231 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_230 : BitVec 32 := 1#32
  let v326 : BitVec 32 := Scalar.muli v141 c1_i32_230
  let v327 : BitVec 32 := Scalar.addi c0_i32_231 v326
  v327.toNat
def k0_off8 (d0 : Dev nD) (c0_i32_151 : BitVec 32) : Fin 3 → Nat :=
  let c8_i32_175 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let v243 : BitVec 32 := Scalar.addi v65 c0_i32_151
  let c1_i32_152 : BitVec 32 := 1#32
  let v244 : BitVec 32 := Scalar.addi v243 c1_i32_152
  let c128_i32_153 : BitVec 32 := 128#32
  let v245 : BitVec 32 := Scalar.addi v244 c128_i32_153
  let c32_i32_154 : BitVec 32 := 32#32
  let v246 : BitVec 32 := Scalar.remsi v245 c32_i32_154
  let c16_i32_155 : BitVec 32 := 16#32
  let v247 : BitVec 1 := Scalar.cmpi .slt v246 c16_i32_155
  let c31_i32_156 : BitVec 32 := 31#32
  let v248 : BitVec 32 := Scalar.subi c31_i32_156 v246
  let v249 : BitVec 32 := Scalar.select v247 v246 v248
  let c0_i32_161 : BitVec 32 := 0#32
  let v253 : BitVec 1 := Scalar.cmpi .sgt v249 c0_i32_161
  let v254 : BitVec 32 := Scalar.extui v253
  let c0_i32_162 : BitVec 32 := 0#32
  let v255 : BitVec 1 := Scalar.cmpi .slt v249 c0_i32_162
  let v256 : BitVec 32 := Scalar.extui v255
  let v257 : BitVec 32 := Scalar.subi v254 v256
  let c4_i32_160 : BitVec 32 := 4#32
  let c0_i32_163 : BitVec 32 := 0#32
  let v258 : BitVec 1 := Scalar.cmpi .sgt c4_i32_160 c0_i32_163
  let v259 : BitVec 32 := Scalar.extui v258
  let c0_i32_164 : BitVec 32 := 0#32
  let v260 : BitVec 1 := Scalar.cmpi .slt c4_i32_160 c0_i32_164
  let v261 : BitVec 32 := Scalar.extui v260
  let v262 : BitVec 32 := Scalar.subi v259 v261
  let v263 : BitVec 1 := Scalar.cmpi .ne v257 v262
  let v264 : BitVec 32 := Scalar.remsi v249 c4_i32_160
  let c0_i32_165 : BitVec 32 := 0#32
  let v265 : BitVec 1 := Scalar.cmpi .ne v264 c0_i32_165
  let v266 : BitVec 1 := Scalar.andi v263 v265
  let v252 : BitVec 32 := Scalar.divsi v249 c4_i32_160
  let c1_i32_166 : BitVec 32 := 1#32
  let v267 : BitVec 32 := Scalar.subi v252 c1_i32_166
  let v268 : BitVec 32 := Scalar.select v266 v267 v252
  let v280 : BitVec 32 := Scalar.muli c8_i32_175 v268
  let c2_i32_171 : BitVec 32 := 2#32
  let c2_i32_168 : BitVec 32 := 2#32
  let v270 : BitVec 32 := Scalar.remsi v268 c2_i32_168
  let c0_i32_169 : BitVec 32 := 0#32
  let v271 : BitVec 1 := Scalar.cmpi .eq v270 c0_i32_169
  let c4_i32_167 : BitVec 32 := 4#32
  let v269 : BitVec 32 := Scalar.remsi v249 c4_i32_167
  let c3_i32_170 : BitVec 32 := 3#32
  let v272 : BitVec 32 := Scalar.subi c3_i32_170 v269
  let v273 : BitVec 32 := Scalar.select v271 v269 v272
  let v274 : BitVec 32 := Scalar.muli c2_i32_171 v273
  let c2_i32_172 : BitVec 32 := 2#32
  let v275 : BitVec 32 := Scalar.remsi v273 c2_i32_172
  let c0_i32_173 : BitVec 32 := 0#32
  let v276 : BitVec 1 := Scalar.cmpi .eq v275 c0_i32_173
  let c16_i32_157 : BitVec 32 := 16#32
  let v250 : BitVec 1 := Scalar.cmpi .slt v246 c16_i32_157
  let c0_i32_158 : BitVec 32 := 0#32
  let c1_i32_159 : BitVec 32 := 1#32
  let v251 : BitVec 32 := Scalar.select v250 c0_i32_158 c1_i32_159
  let c1_i32_174 : BitVec 32 := 1#32
  let v277 : BitVec 32 := Scalar.subi c1_i32_174 v251
  let v278 : BitVec 32 := Scalar.select v276 v251 v277
  let v279 : BitVec 32 := Scalar.addi v274 v278
  let v281 : BitVec 32 := Scalar.addi v280 v279
  let c64_i32_242 : BitVec 32 := 64#32
  let c0_i32_243 : BitVec 32 := 0#32
  ![v281.toNat, 64, 0]
def k0_dev10 (d0 : Dev nD) : Nat :=
  let c0_i32_251 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_250 : BitVec 32 := 1#32
  let v344 : BitVec 32 := Scalar.muli v141 c1_i32_250
  let v345 : BitVec 32 := Scalar.addi c0_i32_251 v344
  v345.toNat
def k0_off9 (d0 : Dev nD) (c0_i32_126 : BitVec 32) : Fin 3 → Nat :=
  let c8_i32_150 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let v204 : BitVec 32 := Scalar.subi v65 c0_i32_126
  let c1_i32_127 : BitVec 32 := 1#32
  let v205 : BitVec 32 := Scalar.subi v204 c1_i32_127
  let c128_i32_128 : BitVec 32 := 128#32
  let v206 : BitVec 32 := Scalar.addi v205 c128_i32_128
  let c32_i32_129 : BitVec 32 := 32#32
  let v207 : BitVec 32 := Scalar.remsi v206 c32_i32_129
  let c16_i32_130 : BitVec 32 := 16#32
  let v208 : BitVec 1 := Scalar.cmpi .slt v207 c16_i32_130
  let c31_i32_131 : BitVec 32 := 31#32
  let v209 : BitVec 32 := Scalar.subi c31_i32_131 v207
  let v210 : BitVec 32 := Scalar.select v208 v207 v209
  let c0_i32_136 : BitVec 32 := 0#32
  let v214 : BitVec 1 := Scalar.cmpi .sgt v210 c0_i32_136
  let v215 : BitVec 32 := Scalar.extui v214
  let c0_i32_137 : BitVec 32 := 0#32
  let v216 : BitVec 1 := Scalar.cmpi .slt v210 c0_i32_137
  let v217 : BitVec 32 := Scalar.extui v216
  let v218 : BitVec 32 := Scalar.subi v215 v217
  let c4_i32_135 : BitVec 32 := 4#32
  let c0_i32_138 : BitVec 32 := 0#32
  let v219 : BitVec 1 := Scalar.cmpi .sgt c4_i32_135 c0_i32_138
  let v220 : BitVec 32 := Scalar.extui v219
  let c0_i32_139 : BitVec 32 := 0#32
  let v221 : BitVec 1 := Scalar.cmpi .slt c4_i32_135 c0_i32_139
  let v222 : BitVec 32 := Scalar.extui v221
  let v223 : BitVec 32 := Scalar.subi v220 v222
  let v224 : BitVec 1 := Scalar.cmpi .ne v218 v223
  let v225 : BitVec 32 := Scalar.remsi v210 c4_i32_135
  let c0_i32_140 : BitVec 32 := 0#32
  let v226 : BitVec 1 := Scalar.cmpi .ne v225 c0_i32_140
  let v227 : BitVec 1 := Scalar.andi v224 v226
  let v213 : BitVec 32 := Scalar.divsi v210 c4_i32_135
  let c1_i32_141 : BitVec 32 := 1#32
  let v228 : BitVec 32 := Scalar.subi v213 c1_i32_141
  let v229 : BitVec 32 := Scalar.select v227 v228 v213
  let v241 : BitVec 32 := Scalar.muli c8_i32_150 v229
  let c2_i32_146 : BitVec 32 := 2#32
  let c2_i32_143 : BitVec 32 := 2#32
  let v231 : BitVec 32 := Scalar.remsi v229 c2_i32_143
  let c0_i32_144 : BitVec 32 := 0#32
  let v232 : BitVec 1 := Scalar.cmpi .eq v231 c0_i32_144
  let c4_i32_142 : BitVec 32 := 4#32
  let v230 : BitVec 32 := Scalar.remsi v210 c4_i32_142
  let c3_i32_145 : BitVec 32 := 3#32
  let v233 : BitVec 32 := Scalar.subi c3_i32_145 v230
  let v234 : BitVec 32 := Scalar.select v232 v230 v233
  let v235 : BitVec 32 := Scalar.muli c2_i32_146 v234
  let c2_i32_147 : BitVec 32 := 2#32
  let v236 : BitVec 32 := Scalar.remsi v234 c2_i32_147
  let c0_i32_148 : BitVec 32 := 0#32
  let v237 : BitVec 1 := Scalar.cmpi .eq v236 c0_i32_148
  let c16_i32_132 : BitVec 32 := 16#32
  let v211 : BitVec 1 := Scalar.cmpi .slt v207 c16_i32_132
  let c0_i32_133 : BitVec 32 := 0#32
  let c1_i32_134 : BitVec 32 := 1#32
  let v212 : BitVec 32 := Scalar.select v211 c0_i32_133 c1_i32_134
  let c1_i32_149 : BitVec 32 := 1#32
  let v238 : BitVec 32 := Scalar.subi c1_i32_149 v212
  let v239 : BitVec 32 := Scalar.select v237 v212 v238
  let v240 : BitVec 32 := Scalar.addi v235 v239
  let v242 : BitVec 32 := Scalar.addi v241 v240
  let v354 : Index := Scalar.indexCast v242
  let c0_256 : Index := 0#32
  let c0_257 : Index := 0#32
  ![v354.toNat, 0, 0]
def k0_off10 (d0 : Dev nD) (c0_i32_126 : BitVec 32) : Fin 2 → Nat :=
  let c8_i32_150 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let v204 : BitVec 32 := Scalar.subi v65 c0_i32_126
  let c1_i32_127 : BitVec 32 := 1#32
  let v205 : BitVec 32 := Scalar.subi v204 c1_i32_127
  let c128_i32_128 : BitVec 32 := 128#32
  let v206 : BitVec 32 := Scalar.addi v205 c128_i32_128
  let c32_i32_129 : BitVec 32 := 32#32
  let v207 : BitVec 32 := Scalar.remsi v206 c32_i32_129
  let c16_i32_130 : BitVec 32 := 16#32
  let v208 : BitVec 1 := Scalar.cmpi .slt v207 c16_i32_130
  let c31_i32_131 : BitVec 32 := 31#32
  let v209 : BitVec 32 := Scalar.subi c31_i32_131 v207
  let v210 : BitVec 32 := Scalar.select v208 v207 v209
  let c0_i32_136 : BitVec 32 := 0#32
  let v214 : BitVec 1 := Scalar.cmpi .sgt v210 c0_i32_136
  let v215 : BitVec 32 := Scalar.extui v214
  let c0_i32_137 : BitVec 32 := 0#32
  let v216 : BitVec 1 := Scalar.cmpi .slt v210 c0_i32_137
  let v217 : BitVec 32 := Scalar.extui v216
  let v218 : BitVec 32 := Scalar.subi v215 v217
  let c4_i32_135 : BitVec 32 := 4#32
  let c0_i32_138 : BitVec 32 := 0#32
  let v219 : BitVec 1 := Scalar.cmpi .sgt c4_i32_135 c0_i32_138
  let v220 : BitVec 32 := Scalar.extui v219
  let c0_i32_139 : BitVec 32 := 0#32
  let v221 : BitVec 1 := Scalar.cmpi .slt c4_i32_135 c0_i32_139
  let v222 : BitVec 32 := Scalar.extui v221
  let v223 : BitVec 32 := Scalar.subi v220 v222
  let v224 : BitVec 1 := Scalar.cmpi .ne v218 v223
  let v225 : BitVec 32 := Scalar.remsi v210 c4_i32_135
  let c0_i32_140 : BitVec 32 := 0#32
  let v226 : BitVec 1 := Scalar.cmpi .ne v225 c0_i32_140
  let v227 : BitVec 1 := Scalar.andi v224 v226
  let v213 : BitVec 32 := Scalar.divsi v210 c4_i32_135
  let c1_i32_141 : BitVec 32 := 1#32
  let v228 : BitVec 32 := Scalar.subi v213 c1_i32_141
  let v229 : BitVec 32 := Scalar.select v227 v228 v213
  let v241 : BitVec 32 := Scalar.muli c8_i32_150 v229
  let c2_i32_146 : BitVec 32 := 2#32
  let c2_i32_143 : BitVec 32 := 2#32
  let v231 : BitVec 32 := Scalar.remsi v229 c2_i32_143
  let c0_i32_144 : BitVec 32 := 0#32
  let v232 : BitVec 1 := Scalar.cmpi .eq v231 c0_i32_144
  let c4_i32_142 : BitVec 32 := 4#32
  let v230 : BitVec 32 := Scalar.remsi v210 c4_i32_142
  let c3_i32_145 : BitVec 32 := 3#32
  let v233 : BitVec 32 := Scalar.subi c3_i32_145 v230
  let v234 : BitVec 32 := Scalar.select v232 v230 v233
  let v235 : BitVec 32 := Scalar.muli c2_i32_146 v234
  let c2_i32_147 : BitVec 32 := 2#32
  let v236 : BitVec 32 := Scalar.remsi v234 c2_i32_147
  let c0_i32_148 : BitVec 32 := 0#32
  let v237 : BitVec 1 := Scalar.cmpi .eq v236 c0_i32_148
  let c16_i32_132 : BitVec 32 := 16#32
  let v211 : BitVec 1 := Scalar.cmpi .slt v207 c16_i32_132
  let c0_i32_133 : BitVec 32 := 0#32
  let c1_i32_134 : BitVec 32 := 1#32
  let v212 : BitVec 32 := Scalar.select v211 c0_i32_133 c1_i32_134
  let c1_i32_149 : BitVec 32 := 1#32
  let v238 : BitVec 32 := Scalar.subi c1_i32_149 v212
  let v239 : BitVec 32 := Scalar.select v237 v212 v238
  let v240 : BitVec 32 := Scalar.addi v235 v239
  let v242 : BitVec 32 := Scalar.addi v241 v240
  let c128_i32_262 : BitVec 32 := 128#32
  let v362 : BitVec 32 := Scalar.muli v242 c128_i32_262
  let v363 : Index := Scalar.indexCast v362
  let c0_263 : Index := 0#32
  ![v363.toNat, 0]
def k0_off11 (d0 : Dev nD) (c0_i32_151 : BitVec 32) : Fin 3 → Nat :=
  let c8_i32_175 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let v243 : BitVec 32 := Scalar.addi v65 c0_i32_151
  let c1_i32_152 : BitVec 32 := 1#32
  let v244 : BitVec 32 := Scalar.addi v243 c1_i32_152
  let c128_i32_153 : BitVec 32 := 128#32
  let v245 : BitVec 32 := Scalar.addi v244 c128_i32_153
  let c32_i32_154 : BitVec 32 := 32#32
  let v246 : BitVec 32 := Scalar.remsi v245 c32_i32_154
  let c16_i32_155 : BitVec 32 := 16#32
  let v247 : BitVec 1 := Scalar.cmpi .slt v246 c16_i32_155
  let c31_i32_156 : BitVec 32 := 31#32
  let v248 : BitVec 32 := Scalar.subi c31_i32_156 v246
  let v249 : BitVec 32 := Scalar.select v247 v246 v248
  let c0_i32_161 : BitVec 32 := 0#32
  let v253 : BitVec 1 := Scalar.cmpi .sgt v249 c0_i32_161
  let v254 : BitVec 32 := Scalar.extui v253
  let c0_i32_162 : BitVec 32 := 0#32
  let v255 : BitVec 1 := Scalar.cmpi .slt v249 c0_i32_162
  let v256 : BitVec 32 := Scalar.extui v255
  let v257 : BitVec 32 := Scalar.subi v254 v256
  let c4_i32_160 : BitVec 32 := 4#32
  let c0_i32_163 : BitVec 32 := 0#32
  let v258 : BitVec 1 := Scalar.cmpi .sgt c4_i32_160 c0_i32_163
  let v259 : BitVec 32 := Scalar.extui v258
  let c0_i32_164 : BitVec 32 := 0#32
  let v260 : BitVec 1 := Scalar.cmpi .slt c4_i32_160 c0_i32_164
  let v261 : BitVec 32 := Scalar.extui v260
  let v262 : BitVec 32 := Scalar.subi v259 v261
  let v263 : BitVec 1 := Scalar.cmpi .ne v257 v262
  let v264 : BitVec 32 := Scalar.remsi v249 c4_i32_160
  let c0_i32_165 : BitVec 32 := 0#32
  let v265 : BitVec 1 := Scalar.cmpi .ne v264 c0_i32_165
  let v266 : BitVec 1 := Scalar.andi v263 v265
  let v252 : BitVec 32 := Scalar.divsi v249 c4_i32_160
  let c1_i32_166 : BitVec 32 := 1#32
  let v267 : BitVec 32 := Scalar.subi v252 c1_i32_166
  let v268 : BitVec 32 := Scalar.select v266 v267 v252
  let v280 : BitVec 32 := Scalar.muli c8_i32_175 v268
  let c2_i32_171 : BitVec 32 := 2#32
  let c2_i32_168 : BitVec 32 := 2#32
  let v270 : BitVec 32 := Scalar.remsi v268 c2_i32_168
  let c0_i32_169 : BitVec 32 := 0#32
  let v271 : BitVec 1 := Scalar.cmpi .eq v270 c0_i32_169
  let c4_i32_167 : BitVec 32 := 4#32
  let v269 : BitVec 32 := Scalar.remsi v249 c4_i32_167
  let c3_i32_170 : BitVec 32 := 3#32
  let v272 : BitVec 32 := Scalar.subi c3_i32_170 v269
  let v273 : BitVec 32 := Scalar.select v271 v269 v272
  let v274 : BitVec 32 := Scalar.muli c2_i32_171 v273
  let c2_i32_172 : BitVec 32 := 2#32
  let v275 : BitVec 32 := Scalar.remsi v273 c2_i32_172
  let c0_i32_173 : BitVec 32 := 0#32
  let v276 : BitVec 1 := Scalar.cmpi .eq v275 c0_i32_173
  let c16_i32_157 : BitVec 32 := 16#32
  let v250 : BitVec 1 := Scalar.cmpi .slt v246 c16_i32_157
  let c0_i32_158 : BitVec 32 := 0#32
  let c1_i32_159 : BitVec 32 := 1#32
  let v251 : BitVec 32 := Scalar.select v250 c0_i32_158 c1_i32_159
  let c1_i32_174 : BitVec 32 := 1#32
  let v277 : BitVec 32 := Scalar.subi c1_i32_174 v251
  let v278 : BitVec 32 := Scalar.select v276 v251 v277
  let v279 : BitVec 32 := Scalar.addi v274 v278
  let v281 : BitVec 32 := Scalar.addi v280 v279
  let v365 : Index := Scalar.indexCast v281
  let c0_264 : Index := 0#32
  let c0_265 : Index := 0#32
  ![v365.toNat, 0, 0]
def k0_off12 (d0 : Dev nD) (c0_i32_151 : BitVec 32) : Fin 2 → Nat :=
  let c8_i32_175 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let v243 : BitVec 32 := Scalar.addi v65 c0_i32_151
  let c1_i32_152 : BitVec 32 := 1#32
  let v244 : BitVec 32 := Scalar.addi v243 c1_i32_152
  let c128_i32_153 : BitVec 32 := 128#32
  let v245 : BitVec 32 := Scalar.addi v244 c128_i32_153
  let c32_i32_154 : BitVec 32 := 32#32
  let v246 : BitVec 32 := Scalar.remsi v245 c32_i32_154
  let c16_i32_155 : BitVec 32 := 16#32
  let v247 : BitVec 1 := Scalar.cmpi .slt v246 c16_i32_155
  let c31_i32_156 : BitVec 32 := 31#32
  let v248 : BitVec 32 := Scalar.subi c31_i32_156 v246
  let v249 : BitVec 32 := Scalar.select v247 v246 v248
  let c0_i32_161 : BitVec 32 := 0#32
  let v253 : BitVec 1 := Scalar.cmpi .sgt v249 c0_i32_161
  let v254 : BitVec 32 := Scalar.extui v253
  let c0_i32_162 : BitVec 32 := 0#32
  let v255 : BitVec 1 := Scalar.cmpi .slt v249 c0_i32_162
  let v256 : BitVec 32 := Scalar.extui v255
  let v257 : BitVec 32 := Scalar.subi v254 v256
  let c4_i32_160 : BitVec 32 := 4#32
  let c0_i32_163 : BitVec 32 := 0#32
  let v258 : BitVec 1 := Scalar.cmpi .sgt c4_i32_160 c0_i32_163
  let v259 : BitVec 32 := Scalar.extui v258
  let c0_i32_164 : BitVec 32 := 0#32
  let v260 : BitVec 1 := Scalar.cmpi .slt c4_i32_160 c0_i32_164
  let v261 : BitVec 32 := Scalar.extui v260
  let v262 : BitVec 32 := Scalar.subi v259 v261
  let v263 : BitVec 1 := Scalar.cmpi .ne v257 v262
  let v264 : BitVec 32 := Scalar.remsi v249 c4_i32_160
  let c0_i32_165 : BitVec 32 := 0#32
  let v265 : BitVec 1 := Scalar.cmpi .ne v264 c0_i32_165
  let v266 : BitVec 1 := Scalar.andi v263 v265
  let v252 : BitVec 32 := Scalar.divsi v249 c4_i32_160
  let c1_i32_166 : BitVec 32 := 1#32
  let v267 : BitVec 32 := Scalar.subi v252 c1_i32_166
  let v268 : BitVec 32 := Scalar.select v266 v267 v252
  let v280 : BitVec 32 := Scalar.muli c8_i32_175 v268
  let c2_i32_171 : BitVec 32 := 2#32
  let c2_i32_168 : BitVec 32 := 2#32
  let v270 : BitVec 32 := Scalar.remsi v268 c2_i32_168
  let c0_i32_169 : BitVec 32 := 0#32
  let v271 : BitVec 1 := Scalar.cmpi .eq v270 c0_i32_169
  let c4_i32_167 : BitVec 32 := 4#32
  let v269 : BitVec 32 := Scalar.remsi v249 c4_i32_167
  let c3_i32_170 : BitVec 32 := 3#32
  let v272 : BitVec 32 := Scalar.subi c3_i32_170 v269
  let v273 : BitVec 32 := Scalar.select v271 v269 v272
  let v274 : BitVec 32 := Scalar.muli c2_i32_171 v273
  let c2_i32_172 : BitVec 32 := 2#32
  let v275 : BitVec 32 := Scalar.remsi v273 c2_i32_172
  let c0_i32_173 : BitVec 32 := 0#32
  let v276 : BitVec 1 := Scalar.cmpi .eq v275 c0_i32_173
  let c16_i32_157 : BitVec 32 := 16#32
  let v250 : BitVec 1 := Scalar.cmpi .slt v246 c16_i32_157
  let c0_i32_158 : BitVec 32 := 0#32
  let c1_i32_159 : BitVec 32 := 1#32
  let v251 : BitVec 32 := Scalar.select v250 c0_i32_158 c1_i32_159
  let c1_i32_174 : BitVec 32 := 1#32
  let v277 : BitVec 32 := Scalar.subi c1_i32_174 v251
  let v278 : BitVec 32 := Scalar.select v276 v251 v277
  let v279 : BitVec 32 := Scalar.addi v274 v278
  let v281 : BitVec 32 := Scalar.addi v280 v279
  let c128_i32_270 : BitVec 32 := 128#32
  let v373 : BitVec 32 := Scalar.muli v281 c128_i32_270
  let v374 : Index := Scalar.indexCast v373
  let c0_271 : Index := 0#32
  ![v374.toNat, 0]
def k0_dev11 (d0 : Dev nD) : Nat :=
  let c0_i32_337 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_336 : BitVec 32 := 1#32
  let v462 : BitVec 32 := Scalar.muli v103 c1_i32_336
  let v463 : BitVec 32 := Scalar.addi c0_i32_337 v462
  v463.toNat
def k0_dev12 (d0 : Dev nD) : Nat :=
  let c0_i32_357 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_356 : BitVec 32 := 1#32
  let v480 : BitVec 32 := Scalar.muli v103 c1_i32_356
  let v481 : BitVec 32 := Scalar.addi c0_i32_357 v480
  v481.toNat
def k0_dev13 (d0 : Dev nD) : Nat :=
  let c0_i32_377 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_376 : BitVec 32 := 1#32
  let v498 : BitVec 32 := Scalar.muli v141 c1_i32_376
  let v499 : BitVec 32 := Scalar.addi c0_i32_377 v498
  v499.toNat
def k0_dev14 (d0 : Dev nD) : Nat :=
  let c0_i32_397 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_396 : BitVec 32 := 1#32
  let v516 : BitVec 32 := Scalar.muli v141 c1_i32_396
  let v517 : BitVec 32 := Scalar.addi c0_i32_397 v516
  v517.toNat
def k0_dev15 (d0 : Dev nD) : Nat :=
  let c0_i32_483 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_482 : BitVec 32 := 1#32
  let v634 : BitVec 32 := Scalar.muli v103 c1_i32_482
  let v635 : BitVec 32 := Scalar.addi c0_i32_483 v634
  v635.toNat
def k0_dev16 (d0 : Dev nD) : Nat :=
  let c0_i32_503 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_502 : BitVec 32 := 1#32
  let v652 : BitVec 32 := Scalar.muli v103 c1_i32_502
  let v653 : BitVec 32 := Scalar.addi c0_i32_503 v652
  v653.toNat
def k0_dev17 (d0 : Dev nD) : Nat :=
  let c0_i32_523 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_522 : BitVec 32 := 1#32
  let v670 : BitVec 32 := Scalar.muli v141 c1_i32_522
  let v671 : BitVec 32 := Scalar.addi c0_i32_523 v670
  v671.toNat
def k0_dev18 (d0 : Dev nD) : Nat :=
  let c0_i32_543 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_542 : BitVec 32 := 1#32
  let v688 : BitVec 32 := Scalar.muli v141 c1_i32_542
  let v689 : BitVec 32 := Scalar.addi c0_i32_543 v688
  v689.toNat
def k0_dev19 (d0 : Dev nD) : Nat :=
  let c0_i32_629 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_628 : BitVec 32 := 1#32
  let v806 : BitVec 32 := Scalar.muli v103 c1_i32_628
  let v807 : BitVec 32 := Scalar.addi c0_i32_629 v806
  v807.toNat
def k0_dev20 (d0 : Dev nD) : Nat :=
  let c0_i32_649 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_648 : BitVec 32 := 1#32
  let v824 : BitVec 32 := Scalar.muli v103 c1_i32_648
  let v825 : BitVec 32 := Scalar.addi c0_i32_649 v824
  v825.toNat
def k0_dev21 (d0 : Dev nD) : Nat :=
  let c0_i32_669 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_668 : BitVec 32 := 1#32
  let v842 : BitVec 32 := Scalar.muli v141 c1_i32_668
  let v843 : BitVec 32 := Scalar.addi c0_i32_669 v842
  v843.toNat
def k0_dev22 (d0 : Dev nD) : Nat :=
  let c0_i32_689 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_688 : BitVec 32 := 1#32
  let v860 : BitVec 32 := Scalar.muli v141 c1_i32_688
  let v861 : BitVec 32 := Scalar.addi c0_i32_689 v860
  v861.toNat
def k0_dev23 (d0 : Dev nD) : Nat :=
  let c0_i32_774 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_773 : BitVec 32 := 1#32
  let v978 : BitVec 32 := Scalar.muli v103 c1_i32_773
  let v979 : BitVec 32 := Scalar.addi c0_i32_774 v978
  v979.toNat
def k0_dev24 (d0 : Dev nD) : Nat :=
  let c0_i32_794 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_793 : BitVec 32 := 1#32
  let v996 : BitVec 32 := Scalar.muli v103 c1_i32_793
  let v997 : BitVec 32 := Scalar.addi c0_i32_794 v996
  v997.toNat
def k0_dev25 (d0 : Dev nD) : Nat :=
  let c0_i32_814 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_813 : BitVec 32 := 1#32
  let v1014 : BitVec 32 := Scalar.muli v141 c1_i32_813
  let v1015 : BitVec 32 := Scalar.addi c0_i32_814 v1014
  v1015.toNat
def k0_dev26 (d0 : Dev nD) : Nat :=
  let c0_i32_834 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_833 : BitVec 32 := 1#32
  let v1032 : BitVec 32 := Scalar.muli v141 c1_i32_833
  let v1033 : BitVec 32 := Scalar.addi c0_i32_834 v1032
  v1033.toNat
def k0_dev27 (d0 : Dev nD) : Nat :=
  let c0_i32_919 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_918 : BitVec 32 := 1#32
  let v1150 : BitVec 32 := Scalar.muli v103 c1_i32_918
  let v1151 : BitVec 32 := Scalar.addi c0_i32_919 v1150
  v1151.toNat
def k0_dev28 (d0 : Dev nD) : Nat :=
  let c0_i32_939 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_938 : BitVec 32 := 1#32
  let v1168 : BitVec 32 := Scalar.muli v103 c1_i32_938
  let v1169 : BitVec 32 := Scalar.addi c0_i32_939 v1168
  v1169.toNat
def k0_dev29 (d0 : Dev nD) : Nat :=
  let c0_i32_959 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_958 : BitVec 32 := 1#32
  let v1186 : BitVec 32 := Scalar.muli v141 c1_i32_958
  let v1187 : BitVec 32 := Scalar.addi c0_i32_959 v1186
  v1187.toNat
def k0_dev30 (d0 : Dev nD) : Nat :=
  let c0_i32_979 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_978 : BitVec 32 := 1#32
  let v1204 : BitVec 32 := Scalar.muli v141 c1_i32_978
  let v1205 : BitVec 32 := Scalar.addi c0_i32_979 v1204
  v1205.toNat
def k0_dev31 (d0 : Dev nD) : Nat :=
  let c0_i32_1064 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_1063 : BitVec 32 := 1#32
  let v1322 : BitVec 32 := Scalar.muli v103 c1_i32_1063
  let v1323 : BitVec 32 := Scalar.addi c0_i32_1064 v1322
  v1323.toNat
def k0_dev32 (d0 : Dev nD) : Nat :=
  let c0_i32_1084 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_1083 : BitVec 32 := 1#32
  let v1340 : BitVec 32 := Scalar.muli v103 c1_i32_1083
  let v1341 : BitVec 32 := Scalar.addi c0_i32_1084 v1340
  v1341.toNat
def k0_dev33 (d0 : Dev nD) : Nat :=
  let c0_i32_1104 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_1103 : BitVec 32 := 1#32
  let v1358 : BitVec 32 := Scalar.muli v141 c1_i32_1103
  let v1359 : BitVec 32 := Scalar.addi c0_i32_1104 v1358
  v1359.toNat
def k0_dev34 (d0 : Dev nD) : Nat :=
  let c0_i32_1124 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_1123 : BitVec 32 := 1#32
  let v1376 : BitVec 32 := Scalar.muli v141 c1_i32_1123
  let v1377 : BitVec 32 := Scalar.addi c0_i32_1124 v1376
  v1377.toNat
def k0_dev35 (d0 : Dev nD) : Nat :=
  let c0_i32_1210 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_1209 : BitVec 32 := 1#32
  let v1494 : BitVec 32 := Scalar.muli v103 c1_i32_1209
  let v1495 : BitVec 32 := Scalar.addi c0_i32_1210 v1494
  v1495.toNat
def k0_dev36 (d0 : Dev nD) : Nat :=
  let c0_i32_1230 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_1229 : BitVec 32 := 1#32
  let v1512 : BitVec 32 := Scalar.muli v103 c1_i32_1229
  let v1513 : BitVec 32 := Scalar.addi c0_i32_1230 v1512
  v1513.toNat
def k0_dev37 (d0 : Dev nD) : Nat :=
  let c0_i32_1250 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_1249 : BitVec 32 := 1#32
  let v1530 : BitVec 32 := Scalar.muli v141 c1_i32_1249
  let v1531 : BitVec 32 := Scalar.addi c0_i32_1250 v1530
  v1531.toNat
def k0_dev38 (d0 : Dev nD) : Nat :=
  let c0_i32_1270 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_1269 : BitVec 32 := 1#32
  let v1548 : BitVec 32 := Scalar.muli v141 c1_i32_1269
  let v1549 : BitVec 32 := Scalar.addi c0_i32_1270 v1548
  v1549.toNat
def k0_dev39 (d0 : Dev nD) : Nat :=
  let c0_i32_1355 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_1354 : BitVec 32 := 1#32
  let v1666 : BitVec 32 := Scalar.muli v103 c1_i32_1354
  let v1667 : BitVec 32 := Scalar.addi c0_i32_1355 v1666
  v1667.toNat
def k0_dev40 (d0 : Dev nD) : Nat :=
  let c0_i32_1375 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_1374 : BitVec 32 := 1#32
  let v1684 : BitVec 32 := Scalar.muli v103 c1_i32_1374
  let v1685 : BitVec 32 := Scalar.addi c0_i32_1375 v1684
  v1685.toNat
def k0_dev41 (d0 : Dev nD) : Nat :=
  let c0_i32_1395 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_1394 : BitVec 32 := 1#32
  let v1702 : BitVec 32 := Scalar.muli v141 c1_i32_1394
  let v1703 : BitVec 32 := Scalar.addi c0_i32_1395 v1702
  v1703.toNat
def k0_dev42 (d0 : Dev nD) : Nat :=
  let c0_i32_1415 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_1414 : BitVec 32 := 1#32
  let v1720 : BitVec 32 := Scalar.muli v141 c1_i32_1414
  let v1721 : BitVec 32 := Scalar.addi c0_i32_1415 v1720
  v1721.toNat
def k0_dev43 (d0 : Dev nD) : Nat :=
  let c0_i32_1500 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_1499 : BitVec 32 := 1#32
  let v1838 : BitVec 32 := Scalar.muli v103 c1_i32_1499
  let v1839 : BitVec 32 := Scalar.addi c0_i32_1500 v1838
  v1839.toNat
def k0_dev44 (d0 : Dev nD) : Nat :=
  let c0_i32_1520 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_1519 : BitVec 32 := 1#32
  let v1856 : BitVec 32 := Scalar.muli v103 c1_i32_1519
  let v1857 : BitVec 32 := Scalar.addi c0_i32_1520 v1856
  v1857.toNat
def k0_dev45 (d0 : Dev nD) : Nat :=
  let c0_i32_1540 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_1539 : BitVec 32 := 1#32
  let v1874 : BitVec 32 := Scalar.muli v141 c1_i32_1539
  let v1875 : BitVec 32 := Scalar.addi c0_i32_1540 v1874
  v1875.toNat
def k0_dev46 (d0 : Dev nD) : Nat :=
  let c0_i32_1560 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_1559 : BitVec 32 := 1#32
  let v1892 : BitVec 32 := Scalar.muli v141 c1_i32_1559
  let v1893 : BitVec 32 := Scalar.addi c0_i32_1560 v1892
  v1893.toNat
def k0_dev47 (d0 : Dev nD) : Nat :=
  let c0_i32_1645 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_1644 : BitVec 32 := 1#32
  let v2010 : BitVec 32 := Scalar.muli v103 c1_i32_1644
  let v2011 : BitVec 32 := Scalar.addi c0_i32_1645 v2010
  v2011.toNat
def k0_dev48 (d0 : Dev nD) : Nat :=
  let c0_i32_1665 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_1664 : BitVec 32 := 1#32
  let v2028 : BitVec 32 := Scalar.muli v103 c1_i32_1664
  let v2029 : BitVec 32 := Scalar.addi c0_i32_1665 v2028
  v2029.toNat
def k0_dev49 (d0 : Dev nD) : Nat :=
  let c0_i32_1685 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_1684 : BitVec 32 := 1#32
  let v2046 : BitVec 32 := Scalar.muli v141 c1_i32_1684
  let v2047 : BitVec 32 := Scalar.addi c0_i32_1685 v2046
  v2047.toNat
def k0_dev50 (d0 : Dev nD) : Nat :=
  let c0_i32_1705 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_1704 : BitVec 32 := 1#32
  let v2064 : BitVec 32 := Scalar.muli v141 c1_i32_1704
  let v2065 : BitVec 32 := Scalar.addi c0_i32_1705 v2064
  v2065.toNat
def k0_dev51 (d0 : Dev nD) : Nat :=
  let c0_i32_1790 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_1789 : BitVec 32 := 1#32
  let v2182 : BitVec 32 := Scalar.muli v103 c1_i32_1789
  let v2183 : BitVec 32 := Scalar.addi c0_i32_1790 v2182
  v2183.toNat
def k0_dev52 (d0 : Dev nD) : Nat :=
  let c0_i32_1810 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_1809 : BitVec 32 := 1#32
  let v2200 : BitVec 32 := Scalar.muli v103 c1_i32_1809
  let v2201 : BitVec 32 := Scalar.addi c0_i32_1810 v2200
  v2201.toNat
def k0_dev53 (d0 : Dev nD) : Nat :=
  let c0_i32_1830 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_1829 : BitVec 32 := 1#32
  let v2218 : BitVec 32 := Scalar.muli v141 c1_i32_1829
  let v2219 : BitVec 32 := Scalar.addi c0_i32_1830 v2218
  v2219.toNat
def k0_dev54 (d0 : Dev nD) : Nat :=
  let c0_i32_1850 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_1849 : BitVec 32 := 1#32
  let v2236 : BitVec 32 := Scalar.muli v141 c1_i32_1849
  let v2237 : BitVec 32 := Scalar.addi c0_i32_1850 v2236
  v2237.toNat
def k0_dev55 (d0 : Dev nD) : Nat :=
  let c0_i32_1935 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_1934 : BitVec 32 := 1#32
  let v2354 : BitVec 32 := Scalar.muli v103 c1_i32_1934
  let v2355 : BitVec 32 := Scalar.addi c0_i32_1935 v2354
  v2355.toNat
def k0_dev56 (d0 : Dev nD) : Nat :=
  let c0_i32_1955 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_1954 : BitVec 32 := 1#32
  let v2372 : BitVec 32 := Scalar.muli v103 c1_i32_1954
  let v2373 : BitVec 32 := Scalar.addi c0_i32_1955 v2372
  v2373.toNat
def k0_dev57 (d0 : Dev nD) : Nat :=
  let c0_i32_1975 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_1974 : BitVec 32 := 1#32
  let v2390 : BitVec 32 := Scalar.muli v141 c1_i32_1974
  let v2391 : BitVec 32 := Scalar.addi c0_i32_1975 v2390
  v2391.toNat
def k0_dev58 (d0 : Dev nD) : Nat :=
  let c0_i32_1995 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_1994 : BitVec 32 := 1#32
  let v2408 : BitVec 32 := Scalar.muli v141 c1_i32_1994
  let v2409 : BitVec 32 := Scalar.addi c0_i32_1995 v2408
  v2409.toNat
def k0_dev59 (d0 : Dev nD) : Nat :=
  let c0_i32_2080 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_2079 : BitVec 32 := 1#32
  let v2526 : BitVec 32 := Scalar.muli v103 c1_i32_2079
  let v2527 : BitVec 32 := Scalar.addi c0_i32_2080 v2526
  v2527.toNat
def k0_dev60 (d0 : Dev nD) : Nat :=
  let c0_i32_2100 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_2099 : BitVec 32 := 1#32
  let v2544 : BitVec 32 := Scalar.muli v103 c1_i32_2099
  let v2545 : BitVec 32 := Scalar.addi c0_i32_2100 v2544
  v2545.toNat
def k0_dev61 (d0 : Dev nD) : Nat :=
  let c0_i32_2120 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_2119 : BitVec 32 := 1#32
  let v2562 : BitVec 32 := Scalar.muli v141 c1_i32_2119
  let v2563 : BitVec 32 := Scalar.addi c0_i32_2120 v2562
  v2563.toNat
def k0_dev62 (d0 : Dev nD) : Nat :=
  let c0_i32_2140 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_2139 : BitVec 32 := 1#32
  let v2580 : BitVec 32 := Scalar.muli v141 c1_i32_2139
  let v2581 : BitVec 32 := Scalar.addi c0_i32_2140 v2580
  v2581.toNat
def k0_dev63 (d0 : Dev nD) : Nat :=
  let c0_i32_2225 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_24 : BitVec 32 := 1#32
  let v66 : BitVec 32 := Scalar.addi v65 c1_i32_24
  let c128_i32 : BitVec 32 := 128#32
  let v67 : BitVec 32 := Scalar.addi v66 c128_i32
  let c32_i32_25 : BitVec 32 := 32#32
  let v68 : BitVec 32 := Scalar.remsi v67 c32_i32_25
  let c16_i32 : BitVec 32 := 16#32
  let v69 : BitVec 1 := Scalar.cmpi .slt v68 c16_i32
  let c31_i32_26 : BitVec 32 := 31#32
  let v70 : BitVec 32 := Scalar.subi c31_i32_26 v68
  let v71 : BitVec 32 := Scalar.select v69 v68 v70
  let c0_i32_31 : BitVec 32 := 0#32
  let v75 : BitVec 1 := Scalar.cmpi .sgt v71 c0_i32_31
  let v76 : BitVec 32 := Scalar.extui v75
  let c0_i32_32 : BitVec 32 := 0#32
  let v77 : BitVec 1 := Scalar.cmpi .slt v71 c0_i32_32
  let v78 : BitVec 32 := Scalar.extui v77
  let v79 : BitVec 32 := Scalar.subi v76 v78
  let c4_i32_30 : BitVec 32 := 4#32
  let c0_i32_33 : BitVec 32 := 0#32
  let v80 : BitVec 1 := Scalar.cmpi .sgt c4_i32_30 c0_i32_33
  let v81 : BitVec 32 := Scalar.extui v80
  let c0_i32_34 : BitVec 32 := 0#32
  let v82 : BitVec 1 := Scalar.cmpi .slt c4_i32_30 c0_i32_34
  let v83 : BitVec 32 := Scalar.extui v82
  let v84 : BitVec 32 := Scalar.subi v81 v83
  let v85 : BitVec 1 := Scalar.cmpi .ne v79 v84
  let v86 : BitVec 32 := Scalar.remsi v71 c4_i32_30
  let c0_i32_35 : BitVec 32 := 0#32
  let v87 : BitVec 1 := Scalar.cmpi .ne v86 c0_i32_35
  let v88 : BitVec 1 := Scalar.andi v85 v87
  let v74 : BitVec 32 := Scalar.divsi v71 c4_i32_30
  let c1_i32_36 : BitVec 32 := 1#32
  let v89 : BitVec 32 := Scalar.subi v74 c1_i32_36
  let v90 : BitVec 32 := Scalar.select v88 v89 v74
  let v102 : BitVec 32 := Scalar.muli c8_i32_45 v90
  let c2_i32_41 : BitVec 32 := 2#32
  let c2_i32_38 : BitVec 32 := 2#32
  let v92 : BitVec 32 := Scalar.remsi v90 c2_i32_38
  let c0_i32_39 : BitVec 32 := 0#32
  let v93 : BitVec 1 := Scalar.cmpi .eq v92 c0_i32_39
  let c4_i32_37 : BitVec 32 := 4#32
  let v91 : BitVec 32 := Scalar.remsi v71 c4_i32_37
  let c3_i32_40 : BitVec 32 := 3#32
  let v94 : BitVec 32 := Scalar.subi c3_i32_40 v91
  let v95 : BitVec 32 := Scalar.select v93 v91 v94
  let v96 : BitVec 32 := Scalar.muli c2_i32_41 v95
  let c2_i32_42 : BitVec 32 := 2#32
  let v97 : BitVec 32 := Scalar.remsi v95 c2_i32_42
  let c0_i32_43 : BitVec 32 := 0#32
  let v98 : BitVec 1 := Scalar.cmpi .eq v97 c0_i32_43
  let c16_i32_27 : BitVec 32 := 16#32
  let v72 : BitVec 1 := Scalar.cmpi .slt v68 c16_i32_27
  let c0_i32_28 : BitVec 32 := 0#32
  let c1_i32_29 : BitVec 32 := 1#32
  let v73 : BitVec 32 := Scalar.select v72 c0_i32_28 c1_i32_29
  let c1_i32_44 : BitVec 32 := 1#32
  let v99 : BitVec 32 := Scalar.subi c1_i32_44 v73
  let v100 : BitVec 32 := Scalar.select v98 v73 v99
  let v101 : BitVec 32 := Scalar.addi v96 v100
  let v103 : BitVec 32 := Scalar.addi v102 v101
  let c1_i32_2224 : BitVec 32 := 1#32
  let v2698 : BitVec 32 := Scalar.muli v103 c1_i32_2224
  let v2699 : BitVec 32 := Scalar.addi c0_i32_2225 v2698
  v2699.toNat
def k0_dev64 (d0 : Dev nD) : Nat :=
  let c0_i32_2265 : BitVec 32 := 0#32
  let c8_i32_69 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_12 : BitVec 32 := 1#32
  let v38 : BitVec 32 := Scalar.addi v20 c1_i32_12
  let c0_i32_14 : BitVec 32 := 0#32
  let v40 : BitVec 1 := Scalar.cmpi .sgt v38 c0_i32_14
  let v41 : BitVec 32 := Scalar.extui v40
  let c0_i32_15 : BitVec 32 := 0#32
  let v42 : BitVec 1 := Scalar.cmpi .slt v38 c0_i32_15
  let v43 : BitVec 32 := Scalar.extui v42
  let v44 : BitVec 32 := Scalar.subi v41 v43
  let c2_i32_13 : BitVec 32 := 2#32
  let c0_i32_16 : BitVec 32 := 0#32
  let v45 : BitVec 1 := Scalar.cmpi .sgt c2_i32_13 c0_i32_16
  let v46 : BitVec 32 := Scalar.extui v45
  let c0_i32_17 : BitVec 32 := 0#32
  let v47 : BitVec 1 := Scalar.cmpi .slt c2_i32_13 c0_i32_17
  let v48 : BitVec 32 := Scalar.extui v47
  let v49 : BitVec 32 := Scalar.subi v46 v48
  let v50 : BitVec 1 := Scalar.cmpi .ne v44 v49
  let v51 : BitVec 32 := Scalar.remsi v38 c2_i32_13
  let c0_i32_18 : BitVec 32 := 0#32
  let v52 : BitVec 1 := Scalar.cmpi .ne v51 c0_i32_18
  let v53 : BitVec 1 := Scalar.andi v50 v52
  let v39 : BitVec 32 := Scalar.divsi v38 c2_i32_13
  let c1_i32_19 : BitVec 32 := 1#32
  let v54 : BitVec 32 := Scalar.subi v39 c1_i32_19
  let v55 : BitVec 32 := Scalar.select v53 v54 v39
  let c2_i32_20 : BitVec 32 := 2#32
  let v56 : BitVec 32 := Scalar.remsi v55 c2_i32_20
  let c0_i32_23 : BitVec 32 := 0#32
  let v63 : BitVec 1 := Scalar.cmpi .eq v56 c0_i32_23
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c4_i32 v19
  let c2_i32_21 : BitVec 32 := 2#32
  let v58 : BitVec 32 := Scalar.remsi v19 c2_i32_21
  let c0_i32_22 : BitVec 32 := 0#32
  let v59 : BitVec 1 := Scalar.cmpi .eq v58 c0_i32_22
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.subi c3_i32 v37
  let v61 : BitVec 32 := Scalar.select v59 v37 v60
  let v62 : BitVec 32 := Scalar.addi v57 v61
  let c31_i32 : BitVec 32 := 31#32
  let v64 : BitVec 32 := Scalar.subi c31_i32 v62
  let v65 : BitVec 32 := Scalar.select v63 v62 v64
  let c1_i32_46 : BitVec 32 := 1#32
  let v104 : BitVec 32 := Scalar.subi v65 c1_i32_46
  let c128_i32_47 : BitVec 32 := 128#32
  let v105 : BitVec 32 := Scalar.addi v104 c128_i32_47
  let c32_i32_48 : BitVec 32 := 32#32
  let v106 : BitVec 32 := Scalar.remsi v105 c32_i32_48
  let c16_i32_49 : BitVec 32 := 16#32
  let v107 : BitVec 1 := Scalar.cmpi .slt v106 c16_i32_49
  let c31_i32_50 : BitVec 32 := 31#32
  let v108 : BitVec 32 := Scalar.subi c31_i32_50 v106
  let v109 : BitVec 32 := Scalar.select v107 v106 v108
  let c0_i32_55 : BitVec 32 := 0#32
  let v113 : BitVec 1 := Scalar.cmpi .sgt v109 c0_i32_55
  let v114 : BitVec 32 := Scalar.extui v113
  let c0_i32_56 : BitVec 32 := 0#32
  let v115 : BitVec 1 := Scalar.cmpi .slt v109 c0_i32_56
  let v116 : BitVec 32 := Scalar.extui v115
  let v117 : BitVec 32 := Scalar.subi v114 v116
  let c4_i32_54 : BitVec 32 := 4#32
  let c0_i32_57 : BitVec 32 := 0#32
  let v118 : BitVec 1 := Scalar.cmpi .sgt c4_i32_54 c0_i32_57
  let v119 : BitVec 32 := Scalar.extui v118
  let c0_i32_58 : BitVec 32 := 0#32
  let v120 : BitVec 1 := Scalar.cmpi .slt c4_i32_54 c0_i32_58
  let v121 : BitVec 32 := Scalar.extui v120
  let v122 : BitVec 32 := Scalar.subi v119 v121
  let v123 : BitVec 1 := Scalar.cmpi .ne v117 v122
  let v124 : BitVec 32 := Scalar.remsi v109 c4_i32_54
  let c0_i32_59 : BitVec 32 := 0#32
  let v125 : BitVec 1 := Scalar.cmpi .ne v124 c0_i32_59
  let v126 : BitVec 1 := Scalar.andi v123 v125
  let v112 : BitVec 32 := Scalar.divsi v109 c4_i32_54
  let c1_i32_60 : BitVec 32 := 1#32
  let v127 : BitVec 32 := Scalar.subi v112 c1_i32_60
  let v128 : BitVec 32 := Scalar.select v126 v127 v112
  let v140 : BitVec 32 := Scalar.muli c8_i32_69 v128
  let c2_i32_65 : BitVec 32 := 2#32
  let c2_i32_62 : BitVec 32 := 2#32
  let v130 : BitVec 32 := Scalar.remsi v128 c2_i32_62
  let c0_i32_63 : BitVec 32 := 0#32
  let v131 : BitVec 1 := Scalar.cmpi .eq v130 c0_i32_63
  let c4_i32_61 : BitVec 32 := 4#32
  let v129 : BitVec 32 := Scalar.remsi v109 c4_i32_61
  let c3_i32_64 : BitVec 32 := 3#32
  let v132 : BitVec 32 := Scalar.subi c3_i32_64 v129
  let v133 : BitVec 32 := Scalar.select v131 v129 v132
  let v134 : BitVec 32 := Scalar.muli c2_i32_65 v133
  let c2_i32_66 : BitVec 32 := 2#32
  let v135 : BitVec 32 := Scalar.remsi v133 c2_i32_66
  let c0_i32_67 : BitVec 32 := 0#32
  let v136 : BitVec 1 := Scalar.cmpi .eq v135 c0_i32_67
  let c16_i32_51 : BitVec 32 := 16#32
  let v110 : BitVec 1 := Scalar.cmpi .slt v106 c16_i32_51
  let c0_i32_52 : BitVec 32 := 0#32
  let c1_i32_53 : BitVec 32 := 1#32
  let v111 : BitVec 32 := Scalar.select v110 c0_i32_52 c1_i32_53
  let c1_i32_68 : BitVec 32 := 1#32
  let v137 : BitVec 32 := Scalar.subi c1_i32_68 v111
  let v138 : BitVec 32 := Scalar.select v136 v111 v137
  let v139 : BitVec 32 := Scalar.addi v134 v138
  let v141 : BitVec 32 := Scalar.addi v140 v139
  let c1_i32_2264 : BitVec 32 := 1#32
  let v2732 : BitVec 32 := Scalar.muli v141 c1_i32_2264
  let v2733 : BitVec 32 := Scalar.addi c0_i32_2265 v2732
  v2733.toNat
abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KernelIdeal.Program.lean ====
/- The kernel's body as a structured program: the ring's arithmetic in closed form, the places a step names, the steps in
   continuation style, the sixteen hops as a recursion, and the equality of that program with the printed body. -/
module

public import proofs.«01_k».proof.Proof.Gen.KernelIdeal.Skeleton

@[expose] public section

noncomputable section

namespace Cert.KernelIdeal.Ring

open Cert.KernelIdeal Cert.KernelIdeal.Gen
open Idealize.ShloMosaic Idealize.SL.Sem

/-! ## The ring -/

/-- The device at a position of the ring: two rows of sixteen, traversed in a snake. -/
def ringAt (p : Fin 32) : Dev nD :=
  let s := if p.val < 16 then p.val else 31 - p.val
  let y := if s / 4 % 2 = 0 then s % 4 else 3 - s % 4
  let b := if y % 2 = 0 then (if p.val < 16 then 0 else 1) else (if p.val < 16 then 1 else 0)
  Fin.ofNat 32 (8 * (s / 4) + 2 * y + b)

/-- The position of a device on the ring. -/
def ringPos (c : Dev nD) : Fin 32 :=
  let y := c.val % 8 / 2
  let s := 4 * (c.val / 8) + (if c.val / 8 % 2 = 0 then y else 3 - y)
  Fin.ofNat 32 (if (c.val % 8 + 1) / 2 % 2 = 0 then s else 31 - s)

theorem ringAt_ringPos : ∀ c : Dev nD, ringAt (ringPos c) = c := by decide +kernel
theorem ringPos_ringAt : ∀ p : Fin 32, ringPos (ringAt p) = p := by decide +kernel

/-- `t` steps against the direction `k` (`false`: to the right, `true`: to the left) from position `p`. -/
def back (k : Bool) (p t : Fin 32) : Fin 32 := bif k then p + t else p - t

/-- The block that travels in direction `k` and has come `t` steps when it is at `c`: its owner. -/
def slot (c : Dev nD) (k : Bool) (t : ℕ) : Dev nD := ringAt (back k (ringPos c) (Fin.ofNat 32 t))

/-- The neighbour in direction `k`. -/
def nb (c : Dev nD) (k : Bool) : Dev nD := ringAt (back (!k) (ringPos c) 1)

/-! ## The places a step names -/

/-- Where half a block starts: the offset and that the half lies in the buffer, on whole words. -/
abbrev HalfAt : Type := {o : Fin 3 → ℕ // (∀ a, o a + S1x64x4096.size a ≤ S32x128x4096.size a)
  ∧ ∀ h : (∀ a, o a + S1x64x4096.size a ≤ S32x128x4096.size a),
      (Rect.unit (s := S32x128x4096) o S1x64x4096.size h).WholeWords (EltTy.packing .bf16)}

/-- Where a whole block starts: the offset and that the block lies in the buffer, on packed rows. -/
abbrev FullAt : Type := {o : Fin 3 → ℕ // (∀ a, o a + S1x128x4096.size a ≤ S32x128x4096.size a)
  ∧ ∀ h : (∀ a, o a + S1x128x4096.size a ≤ S32x128x4096.size a),
      (Rect.unit (s := S32x128x4096) o S1x128x4096.size h).PackedRows (EltTy.packing .bf16)}

/-- Where a block of the result's rows starts. -/
abbrev RowAt : Type := {o : Fin 2 → ℕ // ∀ a, o a + S128x64.size a ≤ S4096x64.size a}

/-- The places the body names: the neighbours and, per direction and step, the block received. -/
@[ext] structure Addr where
  dst : Bool → Dev nD
  half : Bool → Fin 17 → Fin 2 → HalfAt
  full : Bool → Fin 17 → FullAt
  row : Bool → Fin 17 → RowAt

theorem half_ok : ∀ (s : Dev nD) (j : Fin 2), (∀ a, (![s.val, 64 * j.val, 0] : Fin 3 → ℕ) a + S1x64x4096.size a ≤ S32x128x4096.size a)
  ∧ ∀ h : (∀ a, (![s.val, 64 * j.val, 0] : Fin 3 → ℕ) a + S1x64x4096.size a ≤ S32x128x4096.size a),
      (Rect.unit (s := S32x128x4096) ![s.val, 64 * j.val, 0] S1x64x4096.size h).WholeWords (EltTy.packing .bf16) := by
  decide +kernel

theorem full_ok : ∀ (s : Dev nD), (∀ a, (![s.val, 0, 0] : Fin 3 → ℕ) a + S1x128x4096.size a ≤ S32x128x4096.size a)
  ∧ ∀ h : (∀ a, (![s.val, 0, 0] : Fin 3 → ℕ) a + S1x128x4096.size a ≤ S32x128x4096.size a),
      (Rect.unit (s := S32x128x4096) ![s.val, 0, 0] S1x128x4096.size h).PackedRows (EltTy.packing .bf16) := by
  decide +kernel

theorem row_ok : ∀ (s : Dev nD), ∀ a, (![128 * s.val, 0] : Fin 2 → ℕ) a + S128x64.size a ≤ S4096x64.size a := by decide +kernel

/-- Half `j` of block `s`. -/
def halfAt (s : Dev nD) (j : Fin 2) : HalfAt := ⟨![s.val, 64 * j.val, 0], half_ok s j⟩
/-- Block `s`. -/
def fullAt (s : Dev nD) : FullAt := ⟨![s.val, 0, 0], full_ok s⟩
/-- The result's rows from block `s`. -/
def rowAt (s : Dev nD) : RowAt := ⟨![128 * s.val, 0], row_ok s⟩

/-- The places in closed form. -/
def places (c : Dev nD) : Addr where
  dst := nb c
  half k t j := halfAt (slot c k t.val) j
  full k t := fullAt (slot c k t.val)
  row k t := rowAt (slot c k t.val)

/-- The offset of half a block, as printed. -/
def halfP (c : Dev nD) (k : Bool) (t : Fin 17) (j : Fin 2) : Fin 3 → ℕ :=
  match t with
  | ⟨0, _⟩ => match j with
    | ⟨0, _⟩ => k0_off2 c
    | ⟨_ + 1, _⟩ => k0_off3 c
  | ⟨r + 1, _⟩ => match k, j with
    | false, ⟨0, _⟩ => k0_off5 c (BitVec.ofNat 32 r)
    | false, ⟨_ + 1, _⟩ => k0_off6 c (BitVec.ofNat 32 r)
    | true, ⟨0, _⟩ => k0_off7 c (BitVec.ofNat 32 r)
    | true, ⟨_ + 1, _⟩ => k0_off8 c (BitVec.ofNat 32 r)

/-- The offset of a block, as printed. -/
def fullP (c : Dev nD) (k : Bool) (t : Fin 17) : Fin 3 → ℕ :=
  match t with
  | ⟨0, _⟩ => k0_off1 c
  | ⟨r + 1, _⟩ => match k with
    | false => k0_off9 c (BitVec.ofNat 32 r)
    | true => k0_off11 c (BitVec.ofNat 32 r)

/-- The offset of a block of the result's rows, as printed. -/
def rowP (c : Dev nD) (k : Bool) (t : Fin 17) : Fin 2 → ℕ :=
  match t with
  | ⟨0, _⟩ => k0_off4 c
  | ⟨r + 1, _⟩ => match k with
    | false => k0_off10 c (BitVec.ofNat 32 r)
    | true => k0_off12 c (BitVec.ofNat 32 r)

theorem dstR_eq : ∀ c : Dev nD, (⟨k0_dev3 c, k0_dev3_lt c⟩ : Dev nD) = nb c false := by decide +kernel
theorem dstL_eq : ∀ c : Dev nD, (⟨k0_dev5 c, k0_dev5_lt c⟩ : Dev nD) = nb c true := by decide +kernel
theorem halfP_eq : ∀ (c : Dev nD) (k : Bool) (t : Fin 17) (j : Fin 2),
    halfP c k t j = ((places c).half k t j).1 := by decide +kernel
theorem fullP_eq : ∀ (c : Dev nD) (k : Bool) (t : Fin 17), fullP c k t = ((places c).full k t).1 := by decide +kernel
theorem rowP_eq : ∀ (c : Dev nD) (k : Bool) (t : Fin 17), rowP c k t = ((places c).row k t).1 := by decide +kernel

/-- The places as printed. -/
def placesP (c : Dev nD) : Addr where
  dst k := match k with
    | false => ⟨k0_dev3 c, k0_dev3_lt c⟩
    | true => ⟨k0_dev5 c, k0_dev5_lt c⟩
  half k t j := ⟨halfP c k t j, by rw [halfP_eq]; exact ((places c).half k t j).2⟩
  full k t := ⟨fullP c k t, by rw [fullP_eq]; exact ((places c).full k t).2⟩
  row k t := ⟨rowP c k t, by rw [rowP_eq]; exact ((places c).row k t).2⟩

theorem placesP_eq (c : Dev nD) : placesP c = places c := by
  refine Addr.ext ?_ ?_ ?_ ?_
  · funext k; cases k; exacts [dstR_eq c, dstL_eq c]
  · funext k t j; exact Subtype.ext (halfP_eq c k t j)
  · funext k t; exact Subtype.ext (fullP_eq c k t)
  · funext k t; exact Subtype.ext (rowP_eq c k t)

/-! ## The steps -/

variable {F : FTy → Type} [FloatOps F]

/-- A program of the body. -/
abbrev PG (F : FTy → Type) : Type 1 := Prog (TpuEff nD τ sig (Elt F) Λ₀ .tc) PUnit

theorem sem_inb : ∀ (h : Fin 16) (j : Fin 2), ∀ a, (![h.val, j.val] : Fin 2 → ℕ) a + S1x1.size a ≤ S16x2.size a := by decide

/-- One semaphore of an array. -/
def semAt (a : DmaSems sig S16x2) (h : Fin 16) (j : Fin 2) :=
  ((a.slice (Rect.unit (s := S16x2) ![h.val, j.val] S1x1.size (sem_inb h j))).squeeze S_ squeezes_S1x1_S_).sem

/-- The barrier's semaphore. -/
abbrev bar := (SemArray.scalar (sig.barrier 0 rfl) : Sems sig S_).sem

/-- A buffer of blocks seen at half a block. -/
def halfV (arg3 : Memref sig .tc .vmem S32x128x4096 .bf16) (o : HalfAt) : Memref sig .tc .vmem S64x4096 .bf16 :=
  (arg3.slice (Rect.unit (s := S32x128x4096) o.1 S1x64x4096.size o.2.1) (fun _ => rfl)).squeeze S64x4096 squeezes_S1x64x4096_S64x4096

theorem halfV_exact {arg3 : Memref sig .tc .vmem S32x128x4096 .bf16} (harg3 : arg3.IsWhole) (o : HalfAt) :
    (halfV arg3 o).view.WordExact :=
  (harg3.wordExact_slice rfl _ (o.2.2 o.2.1)).reshape _ _

/-- The operands of the body, together. -/
structure Opnds where
  x : Memref sig .tc .vmem S128x4096 .bf16
  hx : x.IsWhole
  w : Memref sig .tc .vmem S4096x64 .bf16
  hw : w.IsWhole
  out : Memref sig .tc .vmem S4096x64 .f32
  hout : out.IsWhole
  comm : Memref sig .tc .vmem S32x128x4096 .bf16
  hcomm : comm.IsWhole
  sendR : DmaSems sig S16x2
  recvR : DmaSems sig S16x2
  sendL : DmaSems sig S16x2
  recvL : DmaSems sig S16x2

namespace Opnds
variable (a : Opnds)
/-- The semaphores a send in direction `k` credits at its device. -/
def send (k : Bool) : DmaSems sig S16x2 := match k with | false => a.sendR | true => a.sendL
/-- The semaphores a send in direction `k` credits at the neighbour. -/
def recv (k : Bool) : DmaSems sig S16x2 := match k with | false => a.recvR | true => a.recvL
end Opnds

variable (a : Opnds) (A : Addr)

/-- Send a half to the same place on device `d`. -/
def sendAt (d : Dev nD) (o : HalfAt) (sS sR : DmaSem sig) (K : PG F) : PG F :=
  .op (.enqueueDma (halfV a.comm o) (.remote (Dev.tc d) (halfV a.comm o) (.dma sS)) (.dma sR)
      (halfV_exact a.hcomm _) (halfV_exact a.hcomm _) ⟨⟨rfl, Or.inl rfl⟩, trivial⟩)
    fun _ => K

/-- Start the send of hop `n`, half `j`, in direction `k`. -/
def sendK (k : Bool) (n : ℕ) (j : Fin 2) (K : PG F) : PG F :=
  sendAt a (A.dst k) (A.half k (Fin.ofNat 17 n) j) (semAt (a.send k) (Fin.ofNat 16 n) j) (semAt (a.recv k) (Fin.ofNat 16 n) j) K

/-- Wait for the half that hop `n` brings in direction `k`. -/
def recvK (k : Bool) (n : ℕ) (j : Fin 2) (K : PG F) : PG F :=
  .op (.waitDma2 (semAt (a.recv k) (Fin.ofNat 16 n) j) (halfV a.comm (A.half k (Fin.ofNat 17 (n + 1)) j)) (halfV a.comm (A.half k (Fin.ofNat 17 (n + 1)) j))
      (halfV_exact a.hcomm _) (halfV_exact a.hcomm _))
    fun _ => K

/-- Wait for the end of the send of hop `n`, half `j`, in direction `k`. -/
def sentK (k : Bool) (n : ℕ) (j : Fin 2) (K : PG F) : PG F :=
  .op (.waitDma2 (semAt (a.send k) (Fin.ofNat 16 n) j) (halfV a.comm (A.half k (Fin.ofNat 17 n) j)) (halfV a.comm (A.half k (Fin.ofNat 17 n) j))
      (halfV_exact a.hcomm _) (halfV_exact a.hcomm _))
    fun _ => K

/-- One block's rows of the result: the product of the block and the columns, cut off at zero below. -/
def rowsOf (b : Vec F S1x128x4096 .bf16) (w : Vec F S4096x64 .bf16) : FVec F S128x64 .f32 := k0_pay2 b w

/-- The rows of the result for one block. -/
def rowsAt (o : FullAt) (r : RowAt) (K : PG F) : PG F :=
  .op (.load a.comm (Rect.unit (s := S32x128x4096) o.1 S1x128x4096.size o.2.1).toLoadRect
      (View.loadsAt_vmem h_S1x128x4096)) fun (b : Vec F S1x128x4096 .bf16) =>
  .op (.load a.w (Rect.unit (s := S4096x64) ![0, 0] S4096x64.size inb_S4096x64_S4096x64_0_0).toLoadRect
      (View.loadsAt_vmem h_S4096x64)) fun (w : Vec F S4096x64 .bf16) =>
  .op (.load a.out (Rect.unit (s := S4096x64) r.1 S128x64.size r.2).toLoadRect
      (View.loadsAt_vmem h_S128x64)) fun _ =>
  .op (.store a.out (Rect.unit (s := S4096x64) r.1 S128x64.size r.2) (rowsOf b w) Finset.univ
      (View.stores_vmem_bits_univ h_S128x64 rfl) (.inl rfl)) fun _ => K

/-- The rows of the result for the block that has come `n` steps in direction `k`. -/
def rowsK (k : Bool) (n : ℕ) (K : PG F) : PG F := rowsAt a (A.full k (Fin.ofNat 17 n)) (A.row k (Fin.ofNat 17 n)) K

/-- Put the device's own block in its place. -/
def ownAt (o : FullAt) (K : PG F) : PG F :=
  .op (.load a.x (Rect.unit (s := S128x4096) ![0, 0] S128x4096.size inb_S128x4096_S128x4096_0_0).toLoadRect
      (View.loadsAt_vmem h_S128x4096)) fun (b : Vec F S128x4096 .bf16) =>
  .op (.load a.comm (Rect.unit (s := S32x128x4096) o.1 S1x128x4096.size o.2.1).toLoadRect
      (View.loadsAt_vmem h_S1x128x4096)) fun _ =>
  .op (.store a.comm (Rect.unit (s := S32x128x4096) o.1 S1x128x4096.size o.2.1) (k0_pay1 b)
      Finset.univ (View.stores_vmem h_S1x128x4096 (a.hcomm.storeExact_slice rfl _ (o.2.2 o.2.1)) (fun _ => rfl))
      (.inl rfl)) fun _ => K

/-- Put the device's own block in its place. -/
def ownK (K : PG F) : PG F := ownAt a (A.full false 0) K

/-- Tell both neighbours that this device has started, and wait for both. -/
def meetK (K : PG F) : PG F :=
  .op (.semSignal (Dev.tc (A.dst true)) bar (BitVec.toInt 1#32)) fun _ =>
  .op (.semSignal (Dev.tc (A.dst false)) bar (BitVec.toInt 1#32)) fun _ =>
  .op (.semWait bar (BitVec.toInt 2#32)) fun _ => K

/-! ## The program -/

/-- Whether direction `k` sends half `j` at hop `n`: the last hop sends one half each way. -/
def used (k : Bool) (n : ℕ) (j : Fin 2) : Bool := n < 15 || (n == 15 && (bif k then j == 1 else j == 0))

/-- One lane of a hop: wait for what hop `n` brings and pass it on. -/
def laneK (n : ℕ) (k : Bool) (j : Fin 2) (K : PG F) : PG F :=
  match used k n j with
  | false => K
  | true => recvK a A k n j
    (match used k (n + 1) j with
      | false => K
      | true => sendK a A k (n + 1) j K)

/-- One hop. -/
def hopK (n : ℕ) (K : PG F) : PG F :=
  laneK a A n false 0 <| laneK a A n false 1 <| laneK a A n true 0 <| laneK a A n true 1 <|
  rowsK a A false (n + 1) <|
  match decide (n < 15) with
  | true => rowsK a A true (n + 1) K
  | false => K

/-- One lane of the closing waits. -/
def doneLaneK (n : ℕ) (k : Bool) (j : Fin 2) (K : PG F) : PG F :=
  match used k n j with
  | false => K
  | true => sentK a A k n j K

/-- The closing waits for the sends of hop `n`. -/
def doneK (n : ℕ) (K : PG F) : PG F :=
  doneLaneK a A n false 0 <| doneLaneK a A n false 1 <| doneLaneK a A n true 0 <| doneLaneK a A n true 1 K

/-- `m` steps, from the `n`th on. -/
def fromK (f : ℕ → PG F → PG F) : ℕ → ℕ → PG F → PG F
  | _, 0, K => K
  | n, m + 1, K => f n (fromK f (n + 1) m K)

/-- The body after the device's own number is read. -/
def progK : PG F :=
  meetK A <| ownK a A <|
  sendK a A false 0 0 <| sendK a A false 0 1 <| sendK a A true 0 0 <| sendK a A true 0 1 <|
  rowsK a A false 0 <|
  fromK (hopK a A) 0 16 <|
  fromK (doneK a A) 0 16 <| .ret ⟨⟩

set_option maxRecDepth 65536 in
set_option maxHeartbeats 4000000 in
theorem body_eqP :
    cc0_body (F := F) a.x a.hx a.w a.hw a.out a.hout a.comm a.hcomm a.sendR a.recvR a.sendL a.recvL
      = .op .deviceId fun c => progK a (placesP c) := rfl

theorem body_eq :
    cc0_body (F := F) a.x a.hx a.w a.hw a.out a.hout a.comm a.hcomm a.sendR a.recvR a.sendL a.recvL
      = .op .deviceId fun c => progK a (places c) := by
  rw [body_eqP]; simp only [placesP_eq]

end Cert.KernelIdeal.Ring

end

end
-- ==== Proof.KernelIdeal.Sched.lean ====
/- What every device holds and owes: the buffer of blocks cut into halves, its contents, and the schedule of the ring's
   semaphores. -/
module

public import proofs.«01_k».proof.Proof.KernelIdeal.Program
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ring's arithmetic -/

theorem back_back (k : Bool) (p s t : Fin 32) : back k (back (!k) p s) (s + t) = back k p t := by
  have hp := p.isLt; have hs := s.isLt; have ht := t.isLt
  cases k
  · show p + s - (s + t) = p - t
    apply Fin.ext; simp only [Fin.val_add, Fin.val_sub]; omega
  · show p - s + (s + t) = p + t
    apply Fin.ext; simp only [Fin.val_add, Fin.val_sub]; omega

theorem back_self (k : Bool) (p t : Fin 32) : back (!k) (back k p t) t = p := by
  have hp := p.isLt; have ht := t.isLt
  cases k
  · show p - t + t = p
    apply Fin.ext; simp only [Fin.val_add, Fin.val_sub]; omega
  · show p + t - t = p
    apply Fin.ext; simp only [Fin.val_add, Fin.val_sub]; omega

theorem back_zero (k : Bool) (p : Fin 32) : back k p 0 = p := by
  have hp := p.isLt
  cases k
  · show p - 0 = p
    apply Fin.ext; simp only [Fin.val_sub, Fin.val_zero]; omega
  · show p + 0 = p
    apply Fin.ext; simp only [Fin.val_add, Fin.val_zero]; omega

/-- The block that is `t` steps on its way at `c` is one step further at the neighbour. -/
theorem slot_nb (c : Dev nD) (k : Bool) (t : ℕ) : slot (nb c k) k (t + 1) = slot c k t := by
  unfold slot nb
  rw [ringPos_ringAt, show Fin.ofNat 32 (t + 1) = 1 + Fin.ofNat 32 t from by
    apply Fin.ext; simp only [Fin.val_add, Fin.val_ofNat, Fin.val_one]; omega, back_back]

theorem nb_nb (c : Dev nD) (k : Bool) : nb (nb c k) (!k) = c := by
  unfold nb
  rw [ringPos_ringAt, back_self, ringAt_ringPos]

theorem nb_nb' (c : Dev nD) (k : Bool) : nb (nb c (!k)) k = c := by
  have h := nb_nb c (!k); rwa [Bool.not_not] at h

theorem slot_zero (c : Dev nD) (k : Bool) : slot c k 0 = c := by
  unfold slot
  rw [show Fin.ofNat 32 0 = 0 from rfl, back_zero, ringAt_ringPos]

/-- The block half way round is the same in both directions. -/
theorem slot_half : ∀ (c : Dev nD) (k : Bool), slot c k 16 = slot c false 16 := by decide +kernel

/-- The neighbour, as a bijection of the devices. -/
def turn (k : Bool) : Dev nD ≃ Dev nD := ⟨fun c => nb c k, fun c => nb c (!k), fun c => nb_nb c k, fun c => nb_nb' c k⟩

/-! ## The buffers -/

abbrev xM : Memref sig .tc .vmem S128x4096 .bf16 := Memref.whole cc0_stg0_0
abbrev wM : Memref sig .tc .vmem S4096x64 .bf16 := Memref.whole cc0_stg1_0
abbrev oM : Memref sig .tc .vmem S4096x64 .f32 := Memref.whole cc0_stg2_0
abbrev cM : Memref sig .tc .vmem S32x128x4096 .bf16 := Memref.whole cc0_scratch0

/-- The operands of the body. -/
abbrev ops : Opnds := ⟨xM, Memref.isWhole_whole _, wM, Memref.isWhole_whole _, oM, Memref.isWhole_whole _, cM,
  Memref.isWhole_whole _, cc0_scratch1, cc0_scratch2, cc0_scratch3, cc0_scratch4⟩

/-- The contents of a buffer of blocks, of a block, of the columns, of a result. -/
abbrev CommC (F : FTy → Type) : Type := (cc0_scratch0 : Ref sig .tc).ty.Contents (Elt F)
abbrev XC (F : FTy → Type) : Type := (cc0_stg0_0 : Ref sig .tc).ty.Contents (Elt F)
abbrev WC (F : FTy → Type) : Type := (cc0_stg1_0 : Ref sig .tc).ty.Contents (Elt F)
abbrev OutC (F : FTy → Type) : Type := (cc0_stg2_0 : Ref sig .tc).ty.Contents (Elt F)

abbrev commLoc (c : Dev nD) : Loc nD τ sig := (c : Thread nD τ).loc cc0_scratch0

/-- The rectangle of a half, of a block, of a block's rows in the result. -/
abbrev rHalf (s : Dev nD) (j : Fin 2) : Rect S32x128x4096 := Rect.unit (s := S32x128x4096) (halfAt s j).1 S1x64x4096.size (halfAt s j).2.1
abbrev rFull (s : Dev nD) : Rect S32x128x4096 := Rect.unit (s := S32x128x4096) (fullAt s).1 S1x128x4096.size (fullAt s).2.1
abbrev rRow (s : Dev nD) : Rect S4096x64 := Rect.unit (s := S4096x64) (rowAt s).1 S128x64.size (rowAt s).2

/-- The elements of half `j` of block `s`. -/
def hset (s : Dev nD) (j : Fin 2) : Finset (cc0_scratch0 : Ref sig .tc).ty.Idx := (halfV cM (halfAt s j)).view.set
/-- The elements of block `s`. -/
def fset (s : Dev nD) : Finset (cc0_scratch0 : Ref sig .tc).ty.Idx := (cM.access (rFull s)).set

theorem hset_eq (s : Dev nD) (j : Fin 2) : hset s j = (rHalf s j).set := by
  exact (View.set_reshape _ _).trans (View.set_slice_whole _ _)

theorem fset_eq (s : Dev nD) : fset s = (rFull s).set := View.set_slice_whole _ _

theorem mem_hset (s : Dev nD) (j : Fin 2) (i : S32x128x4096.Idx) :
    i ∈ hset s j ↔ (i 0).val = s.val ∧ (i 1).val / 64 = j.val := by
  rw [hset_eq, Rect.mem_set_unit]
  have h2 : (i 2).val < 4096 := (i 2).isLt
  have h1 : (i 1).val < 128 := (i 1).isLt
  constructor
  · intro h
    have a0 := h 0; have a1 := h 1
    dsimp [halfAt, S1x64x4096] at a0 a1
    omega
  · rintro ⟨a0, a1⟩ a
    fin_cases a <;> dsimp [halfAt, S1x64x4096] <;> omega

theorem mem_fset (s : Dev nD) (i : S32x128x4096.Idx) : i ∈ fset s ↔ (i 0).val = s.val := by
  rw [fset_eq, Rect.mem_set_unit]
  have h2 : (i 2).val < 4096 := (i 2).isLt
  have h1 : (i 1).val < 128 := (i 1).isLt
  constructor
  · intro h
    have a0 := h 0
    dsimp [fullAt, S1x128x4096] at a0
    omega
  · rintro a0 a
    fin_cases a <;> dsimp [fullAt, S1x128x4096] <;> omega

theorem fset_halves (s : Dev nD) : fset s = hset s 0 ∪ hset s 1 := by
  ext i
  have h1 : (i 1).val < 128 := (i 1).isLt
  rw [Finset.mem_union, mem_fset, mem_hset, mem_hset]
  dsimp
  omega

theorem halves_disjoint (s : Dev nD) : Disjoint (hset s 0) (hset s 1) := by
  rw [Finset.disjoint_left]
  intro i h0 h1
  rw [mem_hset] at h0 h1
  have := h0.2.symm.trans h1.2
  exact absurd this (by decide)

theorem fset_univ : (Finset.univ : Finset (Dev nD)).biUnion fset = Finset.univ := by
  ext i
  simp only [Finset.mem_biUnion, Finset.mem_univ, true_and, iff_true]
  exact ⟨⟨(i 0).val, (i 0).isLt⟩, (mem_fset _ i).mpr rfl⟩

theorem fset_disjoint : ∀ s ∈ (Finset.univ : Finset (Dev nD)), ∀ s' ∈ (Finset.univ : Finset (Dev nD)), s ≠ s' → Disjoint (fset s) (fset s') := by
  intro s _ s' _ h
  rw [Finset.disjoint_left]
  intro i h0 h1
  rw [mem_fset] at h0 h1
  exact h (Fin.ext (h0.symm.trans h1))

/-! ## Contents -/

variable (m : (ℓ : Loc nD τ sig) → Buf (Elt F) ℓ) (ρ : Dev nD → PrngReg)

/-- The memory at launch. -/
def s₀ : MemSt nD τ sig (Elt F) := ⟨m, fun _ => 0, ρ⟩

/-- The device's block of `x`, as staged. -/
def xstg (c : Dev nD) : XC F := (win0_0.blk (0 : Fin 1)).view.read (Elt F) ((s₀ m ρ).mem ((c : Thread nD τ).loc main_arg0))
/-- The device's columns of `w`, as staged. -/
def wstg (c : Dev nD) : WC F := (win0_1.blk (0 : Fin 1)).view.read (Elt F) ((s₀ m ρ).mem ((c : Thread nD τ).loc main_arg1))

/-- A place in the buffer of blocks, inside its block. -/
def inBlock (i : S32x128x4096.Idx) : S1x128x4096.Idx := fun a => match a with
  | ⟨0, _⟩ => (⟨0, Nat.one_pos⟩ : Fin 1)
  | ⟨1, _⟩ => ⟨(i 1).val, (i 1).isLt⟩
  | ⟨2, _⟩ => ⟨(i 2).val, (i 2).isLt⟩

/-- The buffer of blocks once every block is there: block `s` is device `s`'s. -/
def gath : CommC F := fun i => k0_pay1 (xstg m ρ ⟨(i 0).val, (i 0).isLt⟩) (inBlock i)

/-- A place of the result, inside its block of rows. -/
def inRows (i : S4096x64.Idx) : S128x64.Idx := fun a => match a with
  | ⟨0, _⟩ => ⟨(i 0).val % 128, Nat.mod_lt _ (by decide)⟩
  | ⟨1, _⟩ => ⟨(i 1).val, (i 1).isLt⟩

/-- The device whose block gives a row of the result. -/
def rowOwner (i : S4096x64.Idx) : Dev nD := ⟨(i 0).val / 128, by have : (i 0).val < 4096 := (i 0).isLt; show _ < 32; omega⟩

/-- The result on device `c`. -/
def outF (c : Dev nD) : OutC F := fun i => rowsOf (k0_pay1 (xstg m ρ (rowOwner i))) (wstg m ρ c) (inRows i)

/-- What a half holds depends on its block alone; a full block reads back as the device's. -/
theorem read_full (s : Dev nD) :
    cM.view.readAt (Elt F) (rFull s).toLoadRect (gath m ρ) = k0_pay1 (xstg m ρ s) := by
  show (fun j => gath m ρ ((rFull s).emb j)) = _
  funext j
  have e0 : (((rFull s).emb j) 0).val = s.val := by
    have : (j 0).val < 1 := (j 0).isLt
    rw [Rect.emb_apply]; dsimp [fullAt]; omega
  have e1 : (((rFull s).emb j) 1).val = (j 1).val := by rw [Rect.emb_apply]; dsimp [fullAt]; omega
  have e2 : (((rFull s).emb j) 2).val = (j 2).val := by rw [Rect.emb_apply]; dsimp [fullAt]; omega
  unfold gath
  have hs : (⟨(((rFull s).emb j) 0).val, (((rFull s).emb j) 0).isLt⟩ : Dev nD) = s := Fin.ext e0
  have hj : inBlock ((rFull s).emb j) = j := by
    funext a
    fin_cases a
    · have : (j 0).val < 1 := (j 0).isLt
      apply Fin.ext; dsimp [inBlock]; omega
    · exact Fin.ext e1
    · exact Fin.ext e2
  rw [hs, hj]

/-- The device's own block, put in its place, is the gathered buffer there. -/
theorem write_own (c : Dev nD) (f : CommC F) (i : S32x128x4096.Idx) (hi : i ∈ fset c) :
    (cM.access (rFull c)).write (Elt F) f (k0_pay1 (xstg m ρ c)) Finset.univ i = gath m ρ i := by
  obtain ⟨j, -, rfl⟩ := Finset.mem_map.mp (show i ∈ Finset.univ.map (cM.access (rFull c)).emb from hi)
  refine ((cM.access (rFull c)).write_emb_of_mem f _ (Finset.mem_univ j)).trans ?_
  exact (congrFun (read_full m ρ c) j).symm

/-- A landed half is the gathered buffer there. -/
theorem write_half (s : Dev nD) (j : Fin 2) (f : CommC F) (i : S32x128x4096.Idx) (hi : i ∈ hset s j) :
    (halfV cM (halfAt s j)).view.write (Elt F) f ((halfV cM (halfAt s j)).view.read (Elt F) (gath m ρ)) Finset.univ i = gath m ρ i := by
  obtain ⟨x, -, rfl⟩ := Finset.mem_map.mp (show i ∈ Finset.univ.map (halfV cM (halfAt s j)).view.emb from hi)
  refine ((halfV cM (halfAt s j)).view.write_emb_of_mem f _ (Finset.mem_univ x)).trans ?_
  rfl

/-- The rows of block `s`, put in their place, are the result there, and the other rows stay. -/
theorem write_rows (c s : Dev nD) (f : OutC F) (i : S4096x64.Idx) :
    (oM.access (rRow s)).write (Elt F) f (rowsOf (k0_pay1 (xstg m ρ s)) (wstg m ρ c)) Finset.univ i
      = if rowOwner i = s then outF m ρ c i else f i := by
  have hi0 : (i 0).val < 4096 := (i 0).isLt
  split
  case isTrue h =>
    subst h
    have hx : (rRow (rowOwner i)).emb (inRows i) = i := by
      funext a
      apply Fin.ext
      rw [Rect.emb_apply]
      fin_cases a
      · dsimp [rowAt, rowOwner, inRows]; omega
      · dsimp [rowAt, rowOwner, inRows]; omega
    have hw := (oM.access (rRow (rowOwner i))).write_emb_of_mem f
      (rowsOf (k0_pay1 (xstg m ρ (rowOwner i))) (wstg m ρ c)) (Finset.mem_univ (inRows i))
    have hx' : (oM.access (rRow (rowOwner i))).emb (inRows i) = i := hx
    rw [hx'] at hw
    exact hw.trans (cast_eq _ _)
  case isFalse h =>
    refine View.write_of_not_mem _ _ _ fun hi => h ?_
    rw [View.setOn_univ, View.set_slice_whole, Rect.mem_set_unit] at hi
    have a0 := hi 0
    dsimp [rowAt, S128x64] at a0
    apply Fin.ext
    dsimp [rowOwner]
    omega

/-! ## Resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A share of half `j` of block `s` on device `c`. -/
def hp (c s : Dev nD) (j : Fin 2) (q : PosShare TreeShare) (f : Buf (Elt F) (commLoc c)) : sProp 𝕄 := commLoc c ↦[hset s j]{q} f

theorem hp_view (c s : Dev nD) (j : Fin 2) (q : PosShare TreeShare) (f : Buf (Elt F) (commLoc c)) :
    (hp c s j q f : sProp 𝕄)
      = ((halfV cM (halfAt s j)).view.loc (c : Thread nD τ) ↦[(halfV cM (halfAt s j)).view.set]{q} f) := rfl

instance hp_storable (c s : Dev nD) (j : Fin 2) (q : PosShare TreeShare) (f : Buf (Elt F) (commLoc c)) :
    BI.Storable (upEmb : UEmb _ 𝕄) (hp c s j q f) := by unfold hp; infer_instance

/-- The share of a half that a send of hop `n` lends: the own block goes out both ways. -/
def sq (k : Bool) (n : ℕ) : PosShare TreeShare := if n = 0 ∧ k = true then fullShare.right.left else fullShare.left

/-! ## The semaphores -/

/-- The semaphore of hop `h`, half `j`, direction `k`: of its arrival (`r`) or of the end of its send. -/
abbrev xsem (r k : Bool) (h : Fin 16) (j : Fin 2) : DmaSem sig := semAt (bif r then ops.recv k else ops.send k) h j

abbrev xC (c : Dev nD) (r k : Bool) (n : ℕ) (j : Fin 2) : GSem nD τ sig := ((c : Thread nD τ), .dma (xsem r k (Fin.ofNat 16 n) j))
abbrev barC (c : Dev nD) : GSem nD τ sig := ((c : Thread nD τ), .reg bar)

/-- What a semaphore stands for. -/
def role (q : DmaSem sig) : Option (Bool × Bool × Fin 16 × Fin 2) :=
  if 3 ≤ q.val then some (((q.val - 3) / 32) % 2 == 1, ((q.val - 3) / 64) % 2 == 1, Fin.ofNat 16 ((q.val - 3) / 2), Fin.ofNat 2 (q.val - 3)) else none

theorem role_xsem : ∀ (r k : Bool) (h : Fin 16) (j : Fin 2), role (xsem r k h j) = some (r, k, h, j) := by decide +kernel

/-- The credit of one half. -/
def N : ℕ := (halfV cM (halfAt (0 : Dev nD) 0)).view.amount (.dma (xsem true false 0 0))

theorem N_pos : 0 < N := by decide +kernel

/-- A pair, one for each half. -/
def both (Φ : Fin 2 → sProp 𝕄) : sProp 𝕄 := iprop(Φ 0 ∗ Φ 1)

/-- What the neighbour hands over with its barrier signal: the places its memory gives to what comes from here. -/
def barPay (c : Dev nD) (d : Bool) : sProp 𝕄 :=
  bigSep (Finset.range 16) fun n => both fun j => if used d n j = true then iprop(∃ f : CommC F, hp (nb c d) (slot c d n) j fullShare f) else iprop(emp)

/-- What a semaphore's round is for. -/
def dutiesOf (s : SemLoc sig) : Finset Bool := match s with
  | .reg _ => Finset.univ
  | .dma q => match role q with
    | none => ∅
    | some (_, k, h, j) => if used k h.val j = true then {false} else ∅

def payOf (c : Dev nD) (s : SemLoc sig) (d : Bool) : sProp 𝕄 := match s with
  | .reg _ => barPay c d
  | .dma q => match role q with
    | none => iprop(emp)
    | some (true, k, h, j) => hp c (slot c k (h.val + 1)) j fullShare (gath m ρ)
    | some (false, k, h, j) => hp c (slot c k h.val) j (sq k h.val) (gath m ρ)

def amountOf (s : SemLoc sig) : ℕ := match s with
  | .reg _ => 1
  | .dma _ => N

/-- One round: a barrier has one duty of one unit from each neighbour, a transfer's semaphore one duty of its half. -/
def ringRd : Rounds.Schedule (GSem nD τ sig) Bool 𝕄 where
  duties g r := if r = 0 ∧ g.1.2 = .tc then dutiesOf g.2 else ∅
  unitless _ := False
  amount g _ _ := amountOf g.2
  payload g _ d := payOf m ρ g.1.1 g.2 d
  amount_pos g _ _ _ := by
    rcases g with ⟨_, s⟩
    cases s
    · exact Nat.one_pos
    · exact N_pos

instance both_storable (Φ : Fin 2 → sProp 𝕄) [∀ j, BI.Storable (upEmb : UEmb _ 𝕄) (Φ j)] : BI.Storable (upEmb : UEmb _ 𝕄) (both Φ) := by
  unfold both; infer_instance

instance barPay_storable (c : Dev nD) (d : Bool) : BI.Storable (upEmb : UEmb _ 𝕄) (barPay (F := F) c d) := by
  unfold barPay
  have : ∀ (n : ℕ) (j : Fin 2), BI.Storable (upEmb : UEmb _ 𝕄) (if used d n j = true then iprop(∃ f : CommC F, hp (nb c d) (slot c d n) j fullShare f) else iprop(emp)) := by
    intro n j; split <;> infer_instance
  infer_instance

instance ringRd_payload_storable (g : GSem nD τ sig) (r : ℕ) (d : Bool) :
    BI.Storable (upEmb : UEmb _ 𝕄) ((ringRd (F := F) m ρ).payload g r d) := by
  show BI.Storable upEmb (payOf m ρ g.1.1 g.2 d)
  unfold payOf
  (repeat' split) <;> infer_instance

theorem duties_later (g : GSem nD τ sig) (r : ℕ) (hr : 1 ≤ r) : (ringRd m ρ).duties g r = ∅ :=
  if_neg fun h => by omega

theorem duties_bar (c : Dev nD) : (ringRd m ρ).duties (barC c) 0 = Finset.univ := by dsimp only [ringRd]; exact if_pos ⟨rfl, rfl⟩

theorem used_lt {k : Bool} {n : ℕ} {j : Fin 2} (h : used k n j = true) : n < 16 := by
  unfold used at h
  simp only [Bool.or_eq_true, decide_eq_true_eq, Bool.and_eq_true, beq_iff_eq] at h
  omega

theorem ofNat_val {n : ℕ} (h : n < 16) : (Fin.ofNat 16 n).val = n := Nat.mod_eq_of_lt h

theorem duties_x (c : Dev nD) (r k : Bool) (n : ℕ) (j : Fin 2) (hn : n < 16) :
    (ringRd m ρ).duties (xC c r k n j) 0 = if used k n j = true then {false} else ∅ := by
  dsimp only [ringRd]
  rw [if_pos ⟨rfl, rfl⟩]
  unfold dutiesOf
  simp only [role_xsem, ofNat_val hn]

theorem duties_used (c : Dev nD) (r : Bool) {k : Bool} {n : ℕ} {j : Fin 2} (h : used k n j = true) :
    (ringRd m ρ).duties (xC c r k n j) 0 = {false} := (duties_x m ρ c r k n j (used_lt h)).trans (if_pos h)

/-- A semaphore no transfer uses has no duty at all. -/
theorem duties_unused (c : Dev nD) (r : Bool) {k : Bool} {n : ℕ} {j : Fin 2} (hn : n < 16) (h : ¬ used k n j = true) (t : ℕ) (ht : 0 ≤ t) :
    (ringRd m ρ).duties (xC c r k n j) t = ∅ := by
  rcases Nat.eq_zero_or_pos t with rfl | h'
  · exact (duties_x m ρ c r k n j hn).trans (if_neg h)
  · exact duties_later m ρ _ t h'

theorem amount_bar (c : Dev nD) (d : Bool) : (ringRd m ρ).amount (barC c) 0 d = 1 := rfl
theorem amount_x (c : Dev nD) (r k : Bool) (n : ℕ) (j : Fin 2) (d : Bool) : (ringRd m ρ).amount (xC c r k n j) 0 d = N := rfl

theorem expect_bar (c : Dev nD) : (ringRd m ρ).expect (barC c) 0 = 2 := by
  unfold Schedule.expect Schedule.amountOf
  rw [duties_bar, Finset.sum_congr rfl fun d _ => amount_bar m ρ c d, Finset.sum_const, Finset.card_univ, Fintype.card_bool, smul_eq_mul]

theorem expect_x (c : Dev nD) (r : Bool) {k : Bool} {n : ℕ} {j : Fin 2} (h : used k n j = true) : (ringRd m ρ).expect (xC c r k n j) 0 = N := by
  unfold Schedule.expect Schedule.amountOf; rw [duties_used m ρ c r h, Finset.sum_singleton, amount_x]

theorem payload_bar (c : Dev nD) (d : Bool) : (ringRd m ρ).payload (barC c) 0 d = barPay c d := rfl

theorem payload_recv (c : Dev nD) (k : Bool) {n : ℕ} (hn : n < 16) (j : Fin 2) (d : Bool) :
    (ringRd m ρ).payload (xC c true k n j) 0 d = hp c (slot c k (n + 1)) j fullShare (gath m ρ) := by
  show payOf m ρ c (.dma _) d = _
  unfold payOf
  simp only [role_xsem, ofNat_val hn]

theorem payload_send (c : Dev nD) (k : Bool) {n : ℕ} (hn : n < 16) (j : Fin 2) (d : Bool) :
    (ringRd m ρ).payload (xC c false k n j) 0 d = hp c (slot c k n) j (sq k n) (gath m ρ) := by
  show payOf m ρ c (.dma _) d = _
  unfold payOf
  simp only [role_xsem, ofNat_val hn]

theorem rest_bar (c : Dev nD) : bigSep ((ringRd m ρ).duties (barC c) 0 \ ∅) (fun d => (ringRd m ρ).payload (barC c) 0 d) = iprop(barPay c false ∗ barPay c true) := by
  rw [Finset.sdiff_empty, duties_bar, bigSep_univ_eq_bigSepL [false, true] (by decide) (by decide), bigSepL_cons_cons, bigSepL_singleton]
  rfl

theorem rest_x (c : Dev nD) (r : Bool) {k : Bool} {n : ℕ} {j : Fin 2} (h : used k n j = true) :
    bigSep ((ringRd m ρ).duties (xC c r k n j) 0 \ ∅) (fun d => (ringRd m ρ).payload (xC c r k n j) 0 d)
      = (ringRd m ρ).payload (xC c r k n j) 0 false := by
  rw [Finset.sdiff_empty, duties_used m ρ c r h, bigSep_singleton]

/-! ## Levels and what is owed -/

def L (g : GSem nD τ sig) : Finset Unit := if g.1.2 = .tc then {()} else ∅

/-- The barrier at 1, the arrivals of hop `h` at `2 + h`, everything else at 0. -/
def lv (g : GSem nD τ sig) (_ : Unit) : ℕ := match g.2 with
  | .reg _ => 1
  | .dma q => match role q with
    | some (true, _, h, _) => 2 + h.val
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (k : Bool) {n : ℕ} (hn : n < 16) (j : Fin 2) : lv (xC c true k n j) () = 2 + n := by
  unfold lv; simp only [role_xsem, ofNat_val hn]
theorem lv_bar (c : Dev nD) : lv (barC c) () = 1 := rfl

abbrev Tal : Type := CellTallies nD τ sig Unit

/-- Everything owed is owed above level `b`. -/
def Above (b : ℕ) (O : Tal) : Prop := ∀ (g : GSem nD τ sig) (u : Unit), 0 < O g u → g.1.2 = .tc ∧ b < lv g u

theorem Above.zero (b : ℕ) : Above b 0 := fun g u h => absurd h (Nat.lt_irrefl 0)

theorem Above.add {b : ℕ} {O O' : Tal} (h : Above b O) (h' : Above b O') : Above b (O + O') := by
  intro g u hg
  rw [Pi.add_apply, Finsupp.add_apply] at hg
  rcases Nat.eq_zero_or_pos (O g u) with h0 | h0
  · exact h' g u (by omega)
  · exact h g u h0

theorem Above.tally {b : ℕ} {g : GSem nD τ sig} (hg : g.1.2 = .tc) (hb : b < lv g ()) (n : ℕ) : Above b (tallyAt g () n) := by
  intro g' u h
  rw [tallyAt_apply] at h
  by_cases hh : g' = g ∧ u = ()
  · rw [hh.1, hh.2]; exact ⟨hg, hb⟩
  · rw [if_neg hh] at h; exact absurd h (Nat.lt_irrefl 0)

/-- A device may wait at a semaphore below all it owes. -/
theorem mayWait (c : Dev nD) (sm : SemLoc sig) (O : Tal) (h : Above (lv ((c : Thread nD τ), sm) ()) O) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by show u ∈ (if g.1.2 = .tc then {()} else ∅ : Finset Unit); rw [if_pos (h g u hg).1]; exact Finset.mem_singleton_self _)
    (fun p hp => by rw [Finset.mem_singleton.mp hp])
    (fun g u hg => (h g u hg).2)

/-- What `c` owes for one lane of hop `n`: its neighbour's arrival. -/
def laneO (c : Dev nD) (k : Bool) (n : ℕ) (j : Fin 2) : Tal := if used k n j = true then tallyAt (xC (nb c k) true k n j) () N else 0

/-- What `c` owes for the hops from `n` on, `r` of them: the last summand is paid first. -/
def hopsO (c : Dev nD) : ℕ → ℕ → Tal
  | _, 0 => 0
  | n, r + 1 => (((hopsO c (n + 1) r + laneO c true n 1) + laneO c true n 0) + laneO c false n 1) + laneO c false n 0

/-- What `c` owes at launch: all its hops, and one unit to each neighbour's barrier. -/
def O₁ (c : Dev nD) : Tal := hopsO c 0 17 + tallyAt (barC (nb c false)) () 1
def O₀ (c : Dev nD) : Tal := O₁ c + tallyAt (barC (nb c true)) () 1

theorem Above.lane {b : ℕ} (c : Dev nD) (k : Bool) {n : ℕ} (j : Fin 2) (h : b < 2 + n) : Above b (laneO c k n j) := by
  unfold laneO
  split
  case isTrue hu => exact Above.tally rfl (by rw [lv_recv _ _ (used_lt hu)]; exact h) _
  case isFalse => exact Above.zero b

theorem Above.hops {b : ℕ} (c : Dev nD) (r n : ℕ) (h : b < 2 + n) : Above b (hopsO c n r) := by
  induction r generalizing n with
  | zero => exact Above.zero b
  | succ r ih =>
    exact ((((ih (n + 1) (by omega)).add (.lane c _ _ h)).add (.lane c _ _ h)).add (.lane c _ _ h)).add (.lane c _ _ h)

theorem Above.start (c : Dev nD) : Above 0 (O₀ c) :=
  ((Above.hops c 17 0 (by decide)).add (.tally rfl (by rw [lv_bar]; decide) _)).add (.tally rfl (by rw [lv_bar]; decide) _)

end Cert.KernelIdeal.Ring

end

end
-- ==== Proof.KernelIdeal.Steps.lean ====
/- The single steps of the body: what each takes and gives. -/
module

public import proofs.«01_k».proof.Proof.KernelIdeal.Sched

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-- What holds after a run. -/
abbrev Post (F : FTy → Type) : Type := PUnit.{1} → sProp (MT nD τ sig Unit (Elt F) ℕ UU ℕ)

abbrev 𝒱₀ : Variants := Variants.none

/-- Running `P` on device `c`. -/
abbrev WP (c : Dev nD) (P : PG F) (Q : PUnit.{1} → sProp 𝕄) : sProp 𝕄 := wp frame (wpE (defs₀ (F := F)) 𝒱₀ (c : Thread nD τ) none) Set.univ P Q

/-! ## The records every device has -/

/-- The cells of one device. -/
abbrev KI : Type := Unit ⊕ (Bool × Bool × Fin 16 × Fin 2)

def ksem : KI → SemLoc sig
  | .inl _ => .reg bar
  | .inr (r, k, h, j) => .dma (xsem r k h j)

def kcell (p : Dev nD × KI) : GSem nD τ sig := ((p.1 : Thread nD τ), ksem p.2)

/-- Every cell's invariant, and that every cell has reached its round. -/
def recs (K : Dev nD × KI → ℕ) : sProp 𝕄 :=
  iprop((bigSep (Finset.univ : Finset (Dev nD × KI)) fun p => cellInv ER (ringRd m ρ) (K p) (kcell p))
    ∗ (bigSep (Finset.univ : Finset (Dev nD × KI)) fun p => reached ER (kcell p) 0) ∗ levAts L lv)

instance recs_persistent (K : Dev nD × KI → ℕ) : BI.Persistent (recs m ρ K) := by unfold recs; infer_instance

variable (K : Dev nD × KI → ℕ)

theorem recs_inv (p : Dev nD × KI) : recs m ρ K ⊢ cellInv ER (ringRd m ρ) (K p) (kcell p) := by
  unfold recs
  iintro ⟨H, -, -⟩
  ihave H' := (show _ ⊢ _ from bigSep_elim (Φ := fun p => cellInv ER (ringRd m ρ) (K p) (kcell p)) (Finset.mem_univ p)) $$ H
  iexact H'

theorem recs_reached (p : Dev nD × KI) : recs m ρ K ⊢ reached ER (kcell p) 0 := by
  unfold recs
  iintro ⟨-, H, -⟩
  ihave H' := (show _ ⊢ _ from bigSep_elim (Φ := fun p => (reached ER (kcell p) 0 : sProp 𝕄)) (Finset.mem_univ p)) $$ H
  iexact H'

theorem recs_mayWait (c : Dev nD) (sm : SemLoc sig) (O : Tal) (h : Above (lv ((c : Thread nD τ), sm) ()) O) :
    recs m ρ K ⊢ MayWait (c : Thread nD τ) sm () O := by
  unfold recs
  iintro ⟨-, -, H⟩
  iapply (mayWait c sm O h)
  iexact H

abbrev kx (c : Dev nD) (r k : Bool) (n : ℕ) (j : Fin 2) : Dev nD × KI := (c, .inr (r, k, Fin.ofNat 16 n, j))
abbrev kb (c : Dev nD) : Dev nD × KI := (c, .inl ())

/-- What `c` owes, whatever it has waited for. -/
def Ow (c : Dev nD) (O : Tal) : sProp 𝕄 := iprop(∃ W, owes (c : Thread nD τ) O W)

/-! ## The blocks -/

/-- A share of block `s` on device `c`. -/
def blk (c s : Dev nD) (q : PosShare TreeShare) (f : Buf (Elt F) (commLoc c)) : sProp 𝕄 := commLoc c ↦[fset s]{q} f

theorem blk_halves (c s : Dev nD) (q : PosShare TreeShare) (f : Buf (Elt F) (commLoc c)) :
    (blk c s q f : sProp 𝕄) ⊣⊢ iprop(hp c s 0 q f ∗ hp c s 1 q f) := by
  unfold blk hp; rw [fset_halves]; exact pointsTo_union (halves_disjoint s)

theorem hp_share (c s : Dev nD) (j : Fin 2) (q : PosShare TreeShare) (f : Buf (Elt F) (commLoc c)) :
    (hp c s j q f : sProp 𝕄) ⊣⊢ iprop(hp c s j q.left f ∗ hp c s j q.right f) :=
  pointsTo_share (PosShare.mem_left_op_right q)

/-- The result so far: the rows of the blocks in `D` are there. -/
def Out (c : Dev nD) (D : Finset (Dev nD)) : sProp 𝕄 :=
  iprop(∃ f : Buf (Elt F) ((c : Thread nD τ).loc cc0_stg2_0), ((c : Thread nD τ).loc cc0_stg2_0 ↦{fullShare} f) ∗ ⌜∀ i : S4096x64.Idx, rowOwner i ∈ D → f i = outF m ρ c i⌝)

/-- The columns of `w` on `c`, as staged. -/
def wPt (c : Dev nD) : sProp 𝕄 := (c : Thread nD τ).loc cc0_stg1_0 ↦{fullShare} wstg m ρ c
/-- The block of `x` on `c`, as staged. -/
def xPt (c : Dev nD) : sProp 𝕄 := (c : Thread nD τ).loc cc0_stg0_0 ↦{fullShare} xstg m ρ c

theorem hz : (![0, 0] : Fin 2 → Nat) = fun _ => 0 := funext fun a => by fin_cases a <;> rfl

theorem ofNat17 {n : ℕ} (h : n < 17) : (Fin.ofNat 17 n).val = n := Nat.mod_eq_of_lt h

theorem full_eq (c : Dev nD) (k : Bool) {n : ℕ} (h : n < 17) : (places c).full k (Fin.ofNat 17 n) = fullAt (slot c k n) := by
  show fullAt (slot c k (Fin.ofNat 17 n).val) = _; rw [ofNat17 h]
theorem row_eq (c : Dev nD) (k : Bool) {n : ℕ} (h : n < 17) : (places c).row k (Fin.ofNat 17 n) = rowAt (slot c k n) := by
  show rowAt (slot c k (Fin.ofNat 17 n).val) = _; rw [ofNat17 h]
theorem half_eq (c : Dev nD) (k : Bool) {n : ℕ} (h : n < 17) (j : Fin 2) : (places c).half k (Fin.ofNat 17 n) j = halfAt (slot c k n) j := by
  show halfAt (slot c k (Fin.ofNat 17 n).val) j = _; rw [ofNat17 h]

variable (c : Dev nD) (Q : Post F) (P : PG F)

/-- The rows of one block. -/
theorem rows_wp (k : Bool) (n : ℕ) (hn : n < 17) (q : PosShare TreeShare) (D : Finset (Dev nD)) :
    iprop(blk c (slot c k n) q (gath m ρ) ∗ wPt m ρ c ∗ Out m ρ c D)
      ⊢ iprop(((blk c (slot c k n) q (gath m ρ) ∗ wPt m ρ c ∗ Out m ρ c (insert (slot c k n) D)) -∗ WP c P Q)
          -∗ WP c (rowsK ops (places c) k n P) Q) := by
  unfold rowsK blk wPt Out
  rw [full_eq c k hn, row_eq c k hn]
  generalize slot c k n = s
  unfold rowsAt
  iintro ⟨Hc, Hw, ⟨%f, Ho, %hf⟩⟩ Hk
  iapply (wp_load_rect 𝒱₀ (c : Thread nD τ) none Set.univ (m := cM) (r := rFull s) (S := fset s) (Finset.Subset.refl _)) $$ Hc; iintro Hc
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := rRow s) (Mk := Finset.univ) (Finset.subset_univ _)) $$ Ho; iintro Ho
  iapply Hk
  isplitl [Hc]; · iexact Hc
  isplitl [Hw]; · iexact Hw
  iexists _
  isplitl [Ho]; · iexact Ho
  ipureintro
  intro i hi
  have e1 : (cM.access (rFull s)).read (Elt F) (gath m ρ) = k0_pay1 (xstg m ρ s) := read_full m ρ s
  have e2 : wM.view.readAt (Elt F) (Rect.unit (s := S4096x64) ![0, 0] S4096x64.size inb_S4096x64_S4096x64_0_0).toLoadRect (wstg m ρ c) = wstg m ρ c :=
    Memref.readAt_unit_zero (Elt F) cc0_stg1_0 hz _ _
  rw [e1, e2]
  refine (write_rows m ρ c s f i).trans ?_
  split
  · rfl
  · exact hf i ((Finset.mem_insert.mp hi).resolve_left ‹_›)

/-- The device's own block goes to its place. -/
theorem own_wp (f : Buf (Elt F) (commLoc c)) :
    iprop(xPt m ρ c ∗ blk c c fullShare f)
      ⊢ iprop(((xPt m ρ c ∗ blk c c fullShare (gath m ρ)) -∗ WP c P Q) -∗ WP c (ownK ops (places c) P) Q) := by
  unfold ownK blk xPt
  have h0 : (places c).full false 0 = fullAt c := by
    show fullAt (slot c false 0) = _; rw [slot_zero]
  rw [h0]
  unfold ownAt
  iintro ⟨Hx, Hc⟩ Hk
  iapply (wp_load 𝒱₀ (c : Thread nD τ) none Set.univ (m := xM) (Finset.subset_univ _)) $$ Hx; iintro Hx
  iapply (wp_load_rect 𝒱₀ (c : Thread nD τ) none Set.univ (m := cM) (r := rFull c) (S := fset c) (Finset.Subset.refl _)) $$ Hc; iintro Hc
  iapply (wp_store 𝒱₀ (c : Thread nD τ) none Set.univ (m := cM) (r := rFull c) (S := fset c) (Mk := Finset.univ) (Finset.Subset.refl _)) $$ Hc; iintro Hc
  iapply Hk
  isplitl [Hx]; · iexact Hx
  have e1 : xM.view.readAt (Elt F) (Rect.unit (s := S128x4096) ![0, 0] S128x4096.size inb_S128x4096_S128x4096_0_0).toLoadRect (xstg m ρ c) = xstg m ρ c :=
    Memref.readAt_unit_zero (Elt F) cc0_stg0_0 hz _ _
  rw [e1]
  ihave Hc' := (Entails.of_eq (pointsTo_congr (ℓ := commLoc c) (q := fullShare) (fun i hi => write_own m ρ c f i hi))) $$ Hc
  iexact Hc'

/-! ## The transfers -/

theorem amount_half (o : HalfAt) (sm : SemLoc sig) (hs : ∃ q, sm = .dma q) : (halfV cM o).view.amount sm = N := by
  obtain ⟨q, rfl⟩ := hs; rfl

/-- A half that a hop brings: it is there, and its semaphore is done with. -/
theorem recv_wp (k : Bool) (n : ℕ) (j : Fin 2) (hu : used k n j = true) (O : Tal) (hO : Above (2 + n) O) :
    iprop(recs m ρ K ∗ cred (tallyAt (xC c true k n j) () N) ∗ Ow c O ∗ atPos ER (xC c true k n j) 0 ∅ 0)
      ⊢ iprop(((Ow c O ∗ semVal (xC c true k n j) 0 ∗ hp c (slot c k (n + 1)) j fullShare (gath m ρ)) -∗ WP c P Q)
          -∗ WP c (recvK ops (places c) k n j P) Q) := by
  have hl : Above (lv (xC c true k n j) ()) O := by rw [lv_recv c k (used_lt hu) j]; exact hO
  have hm := recs_mayWait m ρ K c (.dma (xsem true k (Fin.ofNat 16 n) j)) O hl
  unfold recvK Ow
  iintro ⟨#HR, Hc, ⟨%W, HO⟩, Hat⟩ Hk
  iapply (Rounds.wp_wait_rest_token 𝒱₀ ER (ringRd m ρ) (c : Thread nD τ) none (κ := K (kx c true k n j)) (sm := .dma (xsem true k (Fin.ofNat 16 n) j))
      (wpE_waitDma2_eq 𝒱₀ (c : Thread nD τ) none Set.univ) (Set.mem_univ _) () (O := O) (W := W) (R := 0) (m := 0) (T := ∅)
      (by rw [Nat.zero_add]; exact (expect_x m ρ c true hu).symm)) $$ [Hc HO Hat]
  · isplitr; · iapply (recs_inv m ρ K (kx c true k n j)); iexact HR
    isplitl [Hc]; · iexact Hc
    isplitl [HO]; · iexact HO
    isplitr; · iapply hm; iexact HR
    iexact Hat
  iintro ⟨HO, Hat, -, Hpay⟩
  ihave Hp := (Entails.of_eq ((rest_x m ρ c true hu).trans (payload_recv m ρ c k (used_lt hu) j false))) $$ Hpay
  imod (Rounds.cell_close ER (ringRd m ρ) (Set.mem_univ (K (kx c true k n j))) (fun h => h) (R := 0 + 1) (duties_later m ρ (xC c true k n j))) $$ [Hat] with Hz
  · isplitr; · iapply (recs_inv m ρ K (kx c true k n j)); iexact HR
    iexact Hat
  iapply Hk
  isplitl [HO]; · iexists _; iexact HO
  isplitl [Hz]; · iexact Hz
  iexact Hp

/-- The end of a send: the share it was lent is back, and its semaphore is done with. -/
theorem sent_wp (k : Bool) (n : ℕ) (j : Fin 2) (hu : used k n j = true) :
    iprop(recs m ρ K ∗ cred (tallyAt (xC c false k n j) () N) ∗ Ow c 0 ∗ atPos ER (xC c false k n j) 0 ∅ 0)
      ⊢ iprop(((Ow c 0 ∗ semVal (xC c false k n j) 0 ∗ hp c (slot c k n) j (sq k n) (gath m ρ)) -∗ WP c P Q)
          -∗ WP c (sentK ops (places c) k n j P) Q) := by
  unfold sentK Ow
  iintro ⟨#HR, Hc, ⟨%W, HO⟩, Hat⟩ Hk
  iapply (Rounds.wp_wait_rest_token 𝒱₀ ER (ringRd m ρ) (c : Thread nD τ) none (κ := K (kx c false k n j)) (sm := .dma (xsem false k (Fin.ofNat 16 n) j))
      (wpE_waitDma2_eq 𝒱₀ (c : Thread nD τ) none Set.univ) (Set.mem_univ _) () (O := 0) (W := W) (R := 0) (m := 0) (T := ∅)
      (by rw [Nat.zero_add]; exact (expect_x m ρ c false hu).symm)) $$ [Hc HO Hat]
  · isplitr; · iapply (recs_inv m ρ K (kx c false k n j)); iexact HR
    isplitl [Hc]; · iexact Hc
    isplitl [HO]; · iexact HO
    isplitr; · rw [MayWait_zero]; iempintro
    iexact Hat
  iintro ⟨HO, Hat, -, Hpay⟩
  ihave Hp := (Entails.of_eq ((rest_x m ρ c false hu).trans (payload_send m ρ c k (used_lt hu) j false))) $$ Hpay
  imod (Rounds.cell_close ER (ringRd m ρ) (Set.mem_univ (K (kx c false k n j))) (fun h => h) (R := 0 + 1) (duties_later m ρ (xC c false k n j))) $$ [Hat] with Hz
  · isplitr; · iapply (recs_inv m ρ K (kx c false k n j)); iexact HR
    iexact Hat
  iapply Hk
  isplitl [HO]; · iexists _; iexact HO
  isplitl [Hz]; · iexact Hz
  iexact Hp

/-- What a send takes besides the half itself: its two tokens and the place at the neighbour. -/
def SendRes (k : Bool) (n : ℕ) (j : Fin 2) : sProp 𝕄 :=
  iprop(dutyTok ER (xC c false k n j) 0 false ∗ dutyTok ER (xC (nb c k) true k n j) 0 false
    ∗ ∃ f : CommC F, hp (nb c k) (slot c k n) j fullShare f)

theorem send_wp (k : Bool) (n : ℕ) (j : Fin 2) (hu : used k n j = true) (O O' : Tal) (hO : O = O' + tallyAt (xC (nb c k) true k n j) () N) :
    iprop(recs m ρ K ∗ hp c (slot c k n) j (sq k n) (gath m ρ) ∗ SendRes (F := F) c k n j ∗ Ow c O)
      ⊢ iprop(((Ow c O' ∗ cred (tallyAt (xC c false k n j) () N)) -∗ WP c P Q)
          -∗ WP c (sendK ops (places c) k n j P) Q) := by
  unfold sendK Ow SendRes
  rw [half_eq c k (by have := used_lt hu; omega) j]
  unfold sendAt
  have hslot := slot_nb c k n
  have hpay := payload_recv m ρ (nb c k) k (used_lt hu) j false
  rw [hslot] at hpay
  have hd₁ : false ∈ (ringRd m ρ).duties (xC c false k n j) 0 := by rw [duties_used m ρ c false hu]; exact Finset.mem_singleton_self _
  have hd₂ : false ∈ (ringRd m ρ).duties (xC (nb c k) true k n j) 0 := by rw [duties_used m ρ (nb c k) true hu]; exact Finset.mem_singleton_self _
  iintro ⟨#HR, Hs, ⟨Ht1, Ht2, %fd, Hd⟩, ⟨%W, HO⟩⟩ Hk
  have hpay₂ : ((halfV cM (halfAt (slot c k n) j)).view.loc (nb c k : Thread nD τ) ↦[(halfV cM (halfAt (slot c k n) j)).view.set]{fullShare}
        ((halfV cM (halfAt (slot c k n) j)).view.write (Elt F) fd ((halfV cM (halfAt (slot c k n) j)).view.read (Elt F) (gath m ρ)) Finset.univ) : sProp 𝕄)
      ⊢ (ringRd m ρ).payload (xC (nb c k) true k n j) 0 false := by
    rw [hpay]
    exact Entails.of_eq (pointsTo_congr (ℓ := commLoc (nb c k)) (q := fullShare) (fun i hi => write_half m ρ (slot c k n) j fd i hi))
  ihave Hs := (Entails.of_eq (hp_view c (slot c k n) j (sq k n) (gath m ρ))) $$ Hs
  ihave Hd := (Entails.of_eq (hp_view (nb c k) (slot c k n) j fullShare fd)) $$ Hd
  iapply (Rounds.wp_send_pointsTo 𝒱₀ ER (ringRd m ρ) (c : Thread nD τ) none (c' := (nb c k : Thread nD τ)) (src := halfV cM (halfAt (slot c k n) j))
    (dst := halfV cM (halfAt (slot c k n) j)) (κ₁ := K (kx c false k n j)) (κ₂ := K (kx (nb c k) true k n j))
    (r₁ := 0) (r₂ := 0) (d₁ := false) (d₂ := false) (q := sq k n) (fs := gath m ρ) (fd := fd)
    hd₁ hd₂
    () () N rfl rfl rfl O' hO (W := W)
    (Entails.of_eq (payload_send m ρ c k (used_lt hu) j false).symm) hpay₂) $$ [Hs Ht1 Ht2 Hd HO]
  · isplitr; · iapply (recs_inv m ρ K (kx c false k n j)); iexact HR
    isplitr; · iapply (recs_inv m ρ K (kx (nb c k) true k n j)); iexact HR
    isplitl [Hs]; · iexact Hs
    isplitl [Hd]; · iexact Hd
    isplitl [HO]; · iexact HO
    isplitl [Ht1]; · iexact Ht1
    isplitr; · iapply (recs_reached m ρ K (kx c false k n j)); iexact HR
    isplitl [Ht2]; · iexact Ht2
    iapply (recs_reached m ρ K (kx (nb c k) true k n j)); iexact HR
  iintro ⟨Hc, HO⟩
  iapply Hk
  isplitl [HO]; · iexists _; iexact HO
  iexact Hc

end Cert.KernelIdeal.Ring

end

end
-- ==== Proof.KernelIdeal.Body.lean ====
/- The body: the hops, one after another, and the closing waits. -/
module

public import proofs.«01_k».proof.Proof.KernelIdeal.Steps
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## Families over the lanes -/

theorem star_assoc (A B C : sProp 𝕄) : iprop((A ∗ B) ∗ C) = iprop(A ∗ B ∗ C) := equiv_iff.mp ⟨BI.sep_assoc, BI.sep_assoc'⟩
theorem star_emp_left (A : sProp 𝕄) : iprop(emp ∗ A) = A := equiv_iff.mp BI.emp_sep

/-- One assertion for each lane of a hop. -/
def four (Φ : Bool → Fin 2 → sProp 𝕄) : sProp 𝕄 := bigSep (Finset.univ : Finset (Bool × Fin 2)) fun x => Φ x.1 x.2

theorem four_eq (Φ : Bool → Fin 2 → sProp 𝕄) : four Φ = iprop(Φ false 0 ∗ Φ false 1 ∗ Φ true 0 ∗ Φ true 1) := by
  unfold four
  rw [bigSep_univ_eq_bigSepL [(false, 0), (false, 1), (true, 0), (true, 1)] (by decide) (by decide), bigSepL_cons_cons, bigSepL_cons_cons,
    bigSepL_cons_cons, bigSepL_singleton]
  rfl

theorem four_both (Φ : Bool → Fin 2 → sProp 𝕄) : four Φ = iprop(both (Φ false) ∗ both (Φ true)) := by
  rw [four_eq]; unfold both
  exact (star_assoc _ _ _).symm

/-- One assertion for each lane of each hop in `s`. -/
def S (s : Finset ℕ) (Φ : Bool → ℕ → Fin 2 → sProp 𝕄) : sProp 𝕄 := bigSep s fun n => four fun k j => Φ k n j

theorem S_sep (s : Finset ℕ) (Φ Ψ : Bool → ℕ → Fin 2 → sProp 𝕄) : S s (fun k n j => iprop(Φ k n j ∗ Ψ k n j)) = iprop(S s Φ ∗ S s Ψ) := by
  unfold S four
  exact (bigSep_congr fun n _ => bigSep_sep Finset.univ (fun x : Bool × Fin 2 => Φ x.1 n x.2) (fun x => Ψ x.1 n x.2)).trans (bigSep_sep _ _ _)

theorem S_mono {s : Finset ℕ} {Φ Ψ : Bool → ℕ → Fin 2 → sProp 𝕄} (h : ∀ n ∈ s, ∀ k j, Φ k n j ⊢ Ψ k n j) : S s Φ ⊢ S s Ψ :=
  bigSep_mono fun n hn => bigSep_mono fun x _ => h n hn x.1 x.2

theorem S_congr {s : Finset ℕ} {Φ Ψ : Bool → ℕ → Fin 2 → sProp 𝕄} (h : ∀ n ∈ s, ∀ k j, Φ k n j = Ψ k n j) : S s Φ = S s Ψ :=
  bigSep_congr fun n hn => bigSep_congr fun x _ => h n hn x.1 x.2

theorem S_first (a b : ℕ) (h : a < b) (Φ : Bool → ℕ → Fin 2 → sProp 𝕄) :
    S (Finset.Ico a b) Φ = iprop(four (fun k j => Φ k a j) ∗ S (Finset.Ico (a + 1) b) Φ) :=
  bigSep_Ico_succ_bot h _

theorem S_none (a : ℕ) (Φ : Bool → ℕ → Fin 2 → sProp 𝕄) : S (Finset.Ico a a) Φ = iprop(emp) := by
  unfold S; rw [Finset.Ico_self]; rfl

theorem four_emp : four (fun _ _ => (iprop(emp) : sProp 𝕄)) = iprop(emp) := by
  unfold four
  exact bigSep_emp_const _

theorem Ico_shift (a b : ℕ) : (Finset.Ico a b).map ⟨(· + 1), add_left_injective 1⟩ = Finset.Ico (a + 1) (b + 1) := by
  ext x
  simp only [Finset.mem_map, Finset.mem_Ico, Function.Embedding.coeFn_mk]
  constructor
  · rintro ⟨y, hy, rfl⟩; omega
  · intro h; exact ⟨x - 1, by omega, by omega⟩

/-- A family that is empty at hop 16, told from hop 1 on. -/
theorem S_shift (Φ : Bool → ℕ → Fin 2 → sProp 𝕄) (h : ∀ k j, Φ k 16 j = iprop(emp)) :
    S (Finset.Ico 0 16) Φ = iprop(four (fun k j => Φ k 0 j) ∗ S (Finset.Ico 0 16) fun k n j => Φ k (n + 1) j) := by
  have e1 : S (Finset.Ico 0 16) (fun k n j => Φ k (n + 1) j) = S (Finset.Ico 1 17) Φ := by
    unfold S
    rw [← Ico_shift 0 16, bigSep_map]; rfl
  have e2 : S (Finset.Ico 1 17) Φ = S (Finset.Ico 1 16) Φ := by
    unfold S
    rw [show Finset.Ico 1 17 = insert 16 (Finset.Ico 1 16) by ext x; simp only [Finset.mem_Ico, Finset.mem_insert]; omega,
      bigSep_insert (by rw [Finset.mem_Ico]; omega)]
    simp only [h, four_emp]
    exact star_emp_left _
  rw [e1, e2, S_first 0 16 (by decide)]

/-! ## Which lanes are used -/

theorem used_early {n : ℕ} (h : n < 15) (k : Bool) (j : Fin 2) : used k n j = true := by
  unfold used; simp only [h, decide_true, Bool.true_or]
theorem used_last (k : Bool) (j : Fin 2) : used k 16 j = false := by
  revert k j; decide
theorem used_prev {k : Bool} {n : ℕ} {j : Fin 2} (h : used k (n + 1) j = true) : used k n j = true :=
  used_early (by have := used_lt h; omega) k j
theorem used_fifteen : used false 15 0 = true ∧ used true 15 1 = true := by decide

variable (K : Dev nD × KI → ℕ) (c : Dev nD) (Q : Post F) (P : PG F)

/-! ## What a lane holds -/

/-- Before hop `n`: the place at its arrival, and the credit for the wait. -/
def RecvRes (k : Bool) (n : ℕ) (j : Fin 2) : sProp 𝕄 :=
  iprop(atPos ER (xC c true k n j) 0 ∅ 0 ∗ if used k n j = true then cred (tallyAt (xC c true k n j) () N) else emp)

/-- What the send of hop `n` takes. -/
def SendIf (k : Bool) (n : ℕ) (j : Fin 2) : sProp 𝕄 := if used k n j = true then SendRes c k n j else iprop(emp)

/-- The credit of the send of hop `n`. -/
def CredIf (k : Bool) (n : ℕ) (j : Fin 2) : sProp 𝕄 := if used k n j = true then cred (tallyAt (xC c false k n j) () N) else iprop(emp)

/-- What `c` keeps of the half that hop `n` brought. -/
def Keep (k : Bool) (n : ℕ) (j : Fin 2) : sProp 𝕄 :=
  if used k n j = true then
    iprop(hp c (slot c k (n + 1)) j fullShare.right (gath m ρ)
      ∗ if used k (n + 1) j = true then emp else hp c (slot c k (n + 1)) j fullShare.left (gath m ρ))
  else iprop(emp)

/-- After hop `n`: its arrival is done with, the half is kept, and the next hop's send is under way. -/
def LanePost (k : Bool) (n : ℕ) (j : Fin 2) : sProp 𝕄 :=
  iprop((semVal (xC c true k n j) 0 ∗ Keep m ρ c k n j) ∗ CredIf c k (n + 1) j)

/-- The share that the send of hop `n` was lent. -/
def BackIf (k : Bool) (n : ℕ) (j : Fin 2) : sProp 𝕄 := if used k n j = true then hp c (slot c k n) j (sq k n) (gath m ρ) else iprop(emp)

theorem sq_later (k : Bool) (n : ℕ) : sq k (n + 1) = fullShare.left := if_neg fun h => by omega

theorem lane_wp (k : Bool) (n : ℕ) (hn : n < 16) (j : Fin 2) (O : Tal) (hO : Above (2 + n) (O + laneO c k (n + 1) j)) :
    iprop(recs m ρ K ∗ RecvRes (F := F) c k n j ∗ SendIf (F := F) c k (n + 1) j ∗ Ow c (O + laneO c k (n + 1) j))
      ⊢ iprop(((Ow c O ∗ LanePost m ρ c k n j) -∗ WP c P Q) -∗ WP c (laneK ops (places c) n k j P) Q) := by
  unfold laneK RecvRes SendIf LanePost Keep CredIf
  by_cases hu : used k n j = true
  case neg =>
    have hv : used k (n + 1) j = false := Bool.eq_false_iff.mpr fun h => hu (used_prev h)
    have e0 : laneO c k (n + 1) j = 0 := by unfold laneO; rw [hv]; rfl
    rw [Bool.not_eq_true] at hu
    simp only [e0, add_zero, hu, hv, reduceIte, reduceCtorEq]
    iintro ⟨#HR, ⟨Hat, -⟩, -, HO⟩ Hk
    imod (Rounds.cell_close ER (ringRd m ρ) (Set.mem_univ (K (kx c true k n j))) (fun h => h) (R := 0)
      (duties_unused m ρ c true hn (by rw [hu]; decide))) $$ [Hat] with Hz
    · isplitr; · iapply (recs_inv m ρ K (kx c true k n j)); iexact HR
      iexact Hat
    iapply Hk
    isplitl [HO]; · iexact HO
    isplitl [Hz]
    · isplitl [Hz]; · iexact Hz
      iempintro
    iempintro
  case pos =>
    by_cases hv : used k (n + 1) j = true
    · have e0 : laneO c k (n + 1) j = tallyAt (xC (nb c k) true k (n + 1) j) () N := by unfold laneO; rw [if_pos hv]
      simp only [hu, hv, reduceIte]
      iintro ⟨#HR, ⟨Hat, Hc⟩, HS, HO⟩ Hk
      iapply (recv_wp m ρ K c Q _ k n j hu _ hO) $$ [Hat Hc HO]
      · isplitr; · iexact HR
        isplitl [Hc]; · iexact Hc
        isplitl [HO]; · iexact HO
        iexact Hat
      iintro ⟨HO, Hz, Hp⟩
      ihave Hp := (hp_share c (slot c k (n + 1)) j fullShare (gath m ρ)).1 $$ Hp
      icases Hp with ⟨Hl, Hr⟩
      ihave Hl := (Entails.of_eq (congrArg (fun q => hp c (slot c k (n + 1)) j q (gath m ρ)) (sq_later k n).symm)) $$ Hl
      iapply (send_wp m ρ K c Q P k (n + 1) j hv (O + laneO c k (n + 1) j) O (by rw [e0])) $$ [Hl HS HO]
      · isplitr; · iexact HR
        isplitl [Hl]; · iexact Hl
        isplitl [HS]; · iexact HS
        iexact HO
      iintro ⟨HO, Hcr⟩
      iapply Hk
      isplitl [HO]; · iexact HO
      isplitl [Hz Hr]
      · isplitl [Hz]; · iexact Hz
        isplitl [Hr]; · iexact Hr
        iempintro
      iexact Hcr
    · rw [Bool.not_eq_true] at hv
      have e0 : laneO c k (n + 1) j = 0 := by unfold laneO; rw [hv]; rfl
      rw [e0, add_zero] at hO
      simp only [e0, add_zero, hu, hv, reduceIte, reduceCtorEq]
      iintro ⟨#HR, ⟨Hat, Hc⟩, -, HO⟩ Hk
      iapply (recv_wp m ρ K c Q _ k n j hu _ hO) $$ [Hat Hc HO]
      · isplitr; · iexact HR
        isplitl [Hc]; · iexact Hc
        isplitl [HO]; · iexact HO
        iexact Hat
      iintro ⟨HO, Hz, Hp⟩
      ihave Hp := (hp_share c (slot c k (n + 1)) j fullShare (gath m ρ)).1 $$ Hp
      icases Hp with ⟨Hl, Hr⟩
      iapply Hk
      isplitl [HO]; · iexact HO
      isplitl [Hz Hr Hl]
      · isplitl [Hz]; · iexact Hz
        isplitl [Hr]; · iexact Hr
        iexact Hl
      iempintro

theorem keep_right (k : Bool) (n : ℕ) (j : Fin 2) (hu : used k n j = true) :
    Keep m ρ c k n j ⊢ iprop(hp c (slot c k (n + 1)) j fullShare.right (gath m ρ)
      ∗ (hp c (slot c k (n + 1)) j fullShare.right (gath m ρ) -∗ Keep m ρ c k n j)) := by
  unfold Keep
  rw [if_pos hu]
  iintro ⟨Hr, Hl⟩
  isplitl [Hr]; · iexact Hr
  iintro Hr
  isplitl [Hr]; · iexact Hr
  iexact Hl

/-- The rows of a block that hop `n` brought, its halves on the lanes `k` and `k'`. -/
theorem rows_keep_wp (k k' : Bool) (n : ℕ) (hn : n < 16) (hs : slot c k' (n + 1) = slot c k (n + 1)) (h0 : used k n 0 = true) (h1 : used k' n 1 = true)
    (D : Finset (Dev nD)) :
    iprop(Keep m ρ c k n 0 ∗ Keep m ρ c k' n 1 ∗ wPt m ρ c ∗ Out m ρ c D)
      ⊢ iprop(((Keep m ρ c k n 0 ∗ Keep m ρ c k' n 1 ∗ wPt m ρ c ∗ Out m ρ c (insert (slot c k (n + 1)) D)) -∗ WP c P Q)
          -∗ WP c (rowsK ops (places c) k (n + 1) P) Q) := by
  have e0 := keep_right m ρ c k n 0 h0
  have e1 := keep_right m ρ c k' n 1 h1
  rw [hs] at e1
  iintro ⟨H0, H1, Hw, Ho⟩ Hk
  ihave H0 := e0 $$ H0
  ihave H1 := e1 $$ H1
  icases H0 with ⟨H0, Hb0⟩
  icases H1 with ⟨H1, Hb1⟩
  iapply (rows_wp m ρ c Q P k (n + 1) (by omega) fullShare.right D) $$ [H0 H1 Hw Ho]
  · isplitl [H0 H1]
    · iapply (blk_halves c (slot c k (n + 1)) fullShare.right (gath m ρ)).2
      isplitl [H0] <;> iassumption
    isplitl [Hw] <;> iassumption
  iintro ⟨Hb, Hw, Ho⟩
  ihave Hb := (blk_halves c (slot c k (n + 1)) fullShare.right (gath m ρ)).1 $$ Hb
  icases Hb with ⟨H0, H1⟩
  iapply Hk
  isplitl [H0 Hb0]; · iapply Hb0; iexact H0
  isplitl [H1 Hb1]; · iapply Hb1; iexact H1
  isplitl [Hw] <;> iassumption

/-- The blocks whose rows are there before hop `n`. -/
def Done (c : Dev nD) : ℕ → Finset (Dev nD)
  | 0 => {c}
  | n + 1 => insert (slot c true (n + 1)) (insert (slot c false (n + 1)) (Done c n))

theorem done_all : ∀ c : Dev nD, Done c 16 = Finset.univ := by decide +kernel

/-- One hop. -/
theorem hop_wp (n r : ℕ) (hn : n < 16) :
    iprop(recs m ρ K ∗ four (fun k j => RecvRes (F := F) c k n j) ∗ four (fun k j => SendIf (F := F) c k (n + 1) j) ∗ Ow c (hopsO c (n + 1) (r + 1))
        ∗ wPt m ρ c ∗ Out m ρ c (Done c n))
      ⊢ iprop(((four (fun k j => LanePost m ρ c k n j) ∗ Ow c (hopsO c (n + 2) r) ∗ wPt m ρ c ∗ Out m ρ c (Done c (n + 1))) -∗ WP c P Q)
          -∗ WP c (hopK ops (places c) n P) Q) := by
  have a0 : Above (2 + n) (hopsO c (n + 2) r) := Above.hops c r (n + 2) (by omega)
  have al : ∀ k j, Above (2 + n) (laneO c k (n + 1) j) := fun k j => Above.lane c k j (by omega)
  have a1 := a0.add (al true 1)
  have a2 := a1.add (al true 0)
  have a3 := a2.add (al false 1)
  have a4 := a3.add (al false 0)
  rw [four_eq, four_eq, four_eq]
  unfold hopK
  rw [show hopsO c (n + 1) (r + 1) = (((hopsO c (n + 2) r + laneO c true (n + 1) 1) + laneO c true (n + 1) 0) + laneO c false (n + 1) 1)
    + laneO c false (n + 1) 0 from rfl]
  iintro ⟨#HR, ⟨R1, R2, R3, R4⟩, ⟨S1, S2, S3, S4⟩, HO, Hw, Ho⟩ Hk
  iapply (lane_wp m ρ K c Q _ false n hn 0 _ a4) $$ [R1 S1 HO]
  · isplitr; · iexact HR
    isplitl [R1]; · iexact R1
    isplitl [S1]; · iexact S1
    iexact HO
  iintro ⟨HO, L1⟩
  iapply (lane_wp m ρ K c Q _ false n hn 1 _ a3) $$ [R2 S2 HO]
  · isplitr; · iexact HR
    isplitl [R2]; · iexact R2
    isplitl [S2]; · iexact S2
    iexact HO
  iintro ⟨HO, L2⟩
  iapply (lane_wp m ρ K c Q _ true n hn 0 _ a2) $$ [R3 S3 HO]
  · isplitr; · iexact HR
    isplitl [R3]; · iexact R3
    isplitl [S3]; · iexact S3
    iexact HO
  iintro ⟨HO, L3⟩
  iapply (lane_wp m ρ K c Q _ true n hn 1 _ a1) $$ [R4 S4 HO]
  · isplitr; · iexact HR
    isplitl [R4]; · iexact R4
    isplitl [S4]; · iexact S4
    iexact HO
  iintro ⟨HO, L4⟩
  unfold LanePost
  icases L1 with ⟨⟨Z1, K1⟩, C1⟩
  icases L2 with ⟨⟨Z2, K2⟩, C2⟩
  icases L3 with ⟨⟨Z3, K3⟩, C3⟩
  icases L4 with ⟨⟨Z4, K4⟩, C4⟩
  by_cases h15 : n < 15
  · simp only [h15, decide_true]
    iapply (rows_keep_wp m ρ c Q _ false false n hn rfl (used_early h15 _ _) (used_early h15 _ _) (Done c n)) $$ [K1 K2 Hw Ho]
    · isplitl [K1]; · iexact K1
      isplitl [K2]; · iexact K2
      isplitl [Hw] <;> iassumption
    iintro ⟨K1, K2, Hw, Ho⟩
    iapply (rows_keep_wp m ρ c Q _ true true n hn rfl (used_early h15 _ _) (used_early h15 _ _) _) $$ [K3 K4 Hw Ho]
    · isplitl [K3]; · iexact K3
      isplitl [K4]; · iexact K4
      isplitl [Hw] <;> iassumption
    iintro ⟨K3, K4, Hw, Ho⟩
    iapply Hk
    isplitl [Z1 K1 C1 Z2 K2 C2 Z3 K3 C3 Z4 K4 C4]
    · isplitl [Z1 K1 C1]
      · isplitl [Z1 K1]
        · isplitl [Z1] <;> iassumption
        iexact C1
      isplitl [Z2 K2 C2]
      · isplitl [Z2 K2]
        · isplitl [Z2] <;> iassumption
        iexact C2
      isplitl [Z3 K3 C3]
      · isplitl [Z3 K3]
        · isplitl [Z3] <;> iassumption
        iexact C3
      isplitl [Z4 K4]
      · isplitl [Z4] <;> iassumption
      iexact C4
    isplitl [HO]; · iexact HO
    isplitl [Hw]; · iexact Hw
    iexact Ho
  · obtain rfl : n = 15 := by omega
    have hs : slot c true 16 = slot c false 16 := slot_half c true
    simp only [h15, decide_false]
    iapply (rows_keep_wp m ρ c Q _ false true 15 hn hs used_fifteen.1 used_fifteen.2 (Done c 15)) $$ [K1 K4 Hw Ho]
    · isplitl [K1]; · iexact K1
      isplitl [K4]; · iexact K4
      isplitl [Hw] <;> iassumption
    iintro ⟨K1, K4, Hw, Ho⟩
    ihave Ho := (Entails.of_eq (congrArg (Out m ρ c) (show insert (slot c false (15 + 1)) (Done c 15) = Done c (15 + 1) from by
      show _ = insert (slot c true 16) (insert (slot c false 16) (Done c 15))
      rw [hs, Finset.insert_idem]))) $$ Ho
    iapply Hk
    isplitl [Z1 K1 C1 Z2 K2 C2 Z3 K3 C3 Z4 K4 C4]
    · isplitl [Z1 K1 C1]
      · isplitl [Z1 K1]
        · isplitl [Z1] <;> iassumption
        iexact C1
      isplitl [Z2 K2 C2]
      · isplitl [Z2 K2]
        · isplitl [Z2] <;> iassumption
        iexact C2
      isplitl [Z3 K3 C3]
      · isplitl [Z3 K3]
        · isplitl [Z3] <;> iassumption
        iexact C3
      isplitl [Z4 K4]
      · isplitl [Z4] <;> iassumption
      iexact C4
    isplitl [HO]; · iexact HO
    isplitl [Hw]; · iexact Hw
    iexact Ho

/-- The hops from `n` on. -/
theorem hops_wp (r : ℕ) : ∀ n : ℕ, n + r = 16 → ∀ P : PG F,
    iprop(recs m ρ K ∗ S (Finset.Ico n 16) (RecvRes (F := F) c) ∗ S (Finset.Ico n 16) (fun k n j => SendIf (F := F) c k (n + 1) j) ∗ Ow c (hopsO c (n + 1) r)
        ∗ wPt m ρ c ∗ Out m ρ c (Done c n))
      ⊢ iprop(((S (Finset.Ico n 16) (LanePost m ρ c) ∗ Ow c 0 ∗ wPt m ρ c ∗ Out m ρ c (Done c 16)) -∗ WP c P Q)
          -∗ WP c (fromK (hopK ops (places c)) n r P) Q) := by
  induction r with
  | zero =>
    intro n hn P
    obtain rfl : n = 16 := by omega
    rw [S_none, S_none, S_none]
    unfold fromK
    iintro ⟨-, -, -, HO, Hw, Ho⟩ Hk
    iapply Hk
    isplitr; · iempintro
    isplitl [HO]; · iexact HO
    isplitl [Hw] <;> iassumption
  | succ r ih =>
    intro n hn P
    rw [S_first n 16 (by omega), S_first n 16 (by omega), S_first n 16 (by omega)]
    unfold fromK
    iintro ⟨#HR, ⟨R, RS⟩, ⟨T, TS⟩, HO, Hw, Ho⟩ Hk
    iapply (hop_wp m ρ K c Q _ n r (by omega)) $$ [R T HO Hw Ho]
    · isplitr; · iexact HR
      isplitl [R]; · iexact R
      isplitl [T]; · iexact T
      isplitl [HO]; · iexact HO
      isplitl [Hw] <;> iassumption
    iintro ⟨L, HO, Hw, Ho⟩
    iapply (ih (n + 1) (by omega) P) $$ [RS TS HO Hw Ho]
    · isplitr; · iexact HR
      isplitl [RS]; · iexact RS
      isplitl [TS]; · iexact TS
      isplitl [HO]; · iexact HO
      isplitl [Hw] <;> iassumption
    iintro ⟨LS, HO, Hw, Ho⟩
    iapply Hk
    isplitl [L LS]
    · isplitl [L] <;> iassumption
    isplitl [HO]; · iexact HO
    isplitl [Hw] <;> iassumption

/-! ## The closing waits -/

/-- Before the closing wait of a lane. -/
def SentRes (k : Bool) (n : ℕ) (j : Fin 2) : sProp 𝕄 := iprop(atPos ER (xC c false k n j) 0 ∅ 0 ∗ CredIf c k n j)
/-- After it. -/
def SentPost (k : Bool) (n : ℕ) (j : Fin 2) : sProp 𝕄 := iprop(semVal (xC c false k n j) 0 ∗ BackIf m ρ c k n j)

theorem doneLane_wp (k : Bool) (n : ℕ) (hn : n < 16) (j : Fin 2) :
    iprop(recs m ρ K ∗ SentRes (F := F) c k n j ∗ Ow c 0)
      ⊢ iprop(((SentPost m ρ c k n j ∗ Ow c 0) -∗ WP c P Q) -∗ WP c (doneLaneK ops (places c) n k j P) Q) := by
  unfold doneLaneK SentRes SentPost CredIf BackIf
  by_cases hu : used k n j = true
  · rw [if_pos hu, if_pos hu]
    simp only [hu]
    iintro ⟨#HR, ⟨Hat, Hc⟩, HO⟩ Hk
    iapply (sent_wp m ρ K c Q P k n j hu) $$ [Hat Hc HO]
    · isplitr; · iexact HR
      isplitl [Hc]; · iexact Hc
      isplitl [HO]; · iexact HO
      iexact Hat
    iintro ⟨HO, Hz, Hp⟩
    iapply Hk
    isplitl [Hz Hp]
    · isplitl [Hz] <;> iassumption
    iexact HO
  · rw [if_neg hu, if_neg hu]
    rw [Bool.not_eq_true] at hu
    simp only [hu]
    iintro ⟨#HR, ⟨Hat, -⟩, HO⟩ Hk
    imod (Rounds.cell_close ER (ringRd m ρ) (Set.mem_univ (K (kx c false k n j))) (fun h => h) (R := 0)
      (duties_unused m ρ c false hn (by rw [hu]; decide))) $$ [Hat] with Hz
    · isplitr; · iapply (recs_inv m ρ K (kx c false k n j)); iexact HR
      iexact Hat
    iapply Hk
    isplitl [Hz]
    · isplitl [Hz]; · iexact Hz
      iempintro
    iexact HO

theorem done_wp (n : ℕ) (hn : n < 16) :
    iprop(recs m ρ K ∗ four (fun k j => SentRes (F := F) c k n j) ∗ Ow c 0)
      ⊢ iprop(((four (fun k j => SentPost m ρ c k n j) ∗ Ow c 0) -∗ WP c P Q) -∗ WP c (doneK ops (places c) n P) Q) := by
  rw [four_eq, four_eq]
  unfold doneK
  iintro ⟨#HR, ⟨R1, R2, R3, R4⟩, HO⟩ Hk
  iapply (doneLane_wp m ρ K c Q _ false n hn 0) $$ [R1 HO]
  · isplitr; · iexact HR
    isplitl [R1] <;> iassumption
  iintro ⟨L1, HO⟩
  iapply (doneLane_wp m ρ K c Q _ false n hn 1) $$ [R2 HO]
  · isplitr; · iexact HR
    isplitl [R2] <;> iassumption
  iintro ⟨L2, HO⟩
  iapply (doneLane_wp m ρ K c Q _ true n hn 0) $$ [R3 HO]
  · isplitr; · iexact HR
    isplitl [R3] <;> iassumption
  iintro ⟨L3, HO⟩
  iapply (doneLane_wp m ρ K c Q _ true n hn 1) $$ [R4 HO]
  · isplitr; · iexact HR
    isplitl [R4] <;> iassumption
  iintro ⟨L4, HO⟩
  iapply Hk
  isplitl [L1 L2 L3 L4]
  · isplitl [L1]; · iexact L1
    isplitl [L2]; · iexact L2
    isplitl [L3] <;> iassumption
  iexact HO

theorem dones_wp (r : ℕ) : ∀ n : ℕ, n + r = 16 → ∀ P : PG F,
    iprop(recs m ρ K ∗ S (Finset.Ico n 16) (SentRes (F := F) c) ∗ Ow c 0)
      ⊢ iprop(((S (Finset.Ico n 16) (SentPost m ρ c) ∗ Ow c 0) -∗ WP c P Q) -∗ WP c (fromK (doneK ops (places c)) n r P) Q) := by
  induction r with
  | zero =>
    intro n hn P
    obtain rfl : n = 16 := by omega
    rw [S_none, S_none]
    unfold fromK
    iintro ⟨-, -, HO⟩ Hk
    iapply Hk
    isplitr; · iempintro
    iexact HO
  | succ r ih =>
    intro n hn P
    rw [S_first n 16 (by omega), S_first n 16 (by omega)]
    unfold fromK
    iintro ⟨#HR, ⟨R, RS⟩, HO⟩ Hk
    iapply (done_wp m ρ K c Q _ n (by omega)) $$ [R HO]
    · isplitr; · iexact HR
      isplitl [R] <;> iassumption
    iintro ⟨L, HO⟩
    iapply (ih (n + 1) (by omega) P) $$ [RS HO]
    · isplitr; · iexact HR
      isplitl [RS] <;> iassumption
    iintro ⟨LS, HO⟩
    iapply Hk
    isplitl [L LS]
    · isplitl [L] <;> iassumption
    iexact HO

end Cert.KernelIdeal.Ring

end

end
-- ==== Proof.KernelIdeal.Whole.lean ====
/- The whole body: the meeting at the start, the device's own block, the first sends, the hops and the closing waits. -/
module

public import proofs.«01_k».proof.Proof.KernelIdeal.Body

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## Families over all lanes of all hops -/

/-- The hops. -/
abbrev I16 : Finset ℕ := Finset.Ico 0 16

theorem S_both (s : Finset ℕ) (Φ : Bool → ℕ → Fin 2 → sProp 𝕄) :
    S s Φ = iprop((bigSep s fun n => both (Φ false n)) ∗ bigSep s fun n => both (Φ true n)) := by
  unfold S
  exact (bigSep_congr fun n _ => four_both fun k j => Φ k n j).trans (bigSep_sep _ _ _)

/-- A lane of a hop. -/
abbrev LI : Type := Fin 16 × (Bool × Fin 2)

theorem S_univ (Φ : Bool → ℕ → Fin 2 → sProp 𝕄) :
    S I16 Φ = bigSep (Finset.univ : Finset LI) fun x => Φ x.2.1 x.1.val x.2.2 := by
  unfold S I16
  rw [bigSep_univ_prod, show Finset.Ico 0 16 = (Finset.univ : Finset (Fin 16)).map Fin.valEmbedding by decide, bigSep_map]
  rfl

/-! ## The buffer in halves -/

theorem slot_apart (c : Dev nD) (k k' : Bool) (n n' : ℕ) (j : Fin 2) (hu : used k n j = true) (hu' : used k' n' j = true)
    (h : slot c k (n + 1) = slot c k' (n' + 1)) : k = k' ∧ n = n' := by
  have hp := (ringPos c).isLt
  have e := congrArg ringPos h
  unfold slot at e
  rw [ringPos_ringAt, ringPos_ringAt] at e
  have ev := congrArg Fin.val e
  have l := used_lt hu
  have l' := used_lt hu'
  unfold used at hu hu'
  simp only [Bool.or_eq_true, decide_eq_true_eq, Bool.and_eq_true, beq_iff_eq] at hu hu'
  cases k <;> cases k' <;> simp only [back, cond_true, cond_false, Fin.val_add, Fin.val_sub, Fin.val_ofNat, beq_iff_eq] at ev hu hu'
  · exact ⟨rfl, by omega⟩
  · exfalso
    rcases hu with hu | hu <;> rcases hu' with hu' | hu'
    · omega
    · omega
    · omega
    · have := hu.2.symm.trans hu'.2; exact absurd this (by decide)
  · exfalso
    rcases hu with hu | hu <;> rcases hu' with hu' | hu'
    · omega
    · omega
    · omega
    · have := hu.2.symm.trans hu'.2; exact absurd this (by decide)
  · exact ⟨rfl, by omega⟩

theorem slot_away (c : Dev nD) (k : Bool) (n : ℕ) (hn : n < 16) : slot c k (n + 1) ≠ c := by
  intro h
  have hp := (ringPos c).isLt
  have e := congrArg ringPos h
  unfold slot at e
  rw [ringPos_ringAt] at e
  have ev := congrArg Fin.val e
  cases k <;> simp only [back, cond_true, cond_false, Fin.val_add, Fin.val_sub, Fin.val_ofNat] at ev <;> omega

/-- The lanes in use. -/
def inUse : Finset LI := Finset.univ.filter fun x => used x.2.1 x.1.val x.2.2 = true
/-- The half that a lane brings. -/
def brings (c : Dev nD) (x : LI) : Dev nD × Fin 2 := (slot c x.2.1 (x.1.val + 1), x.2.2)

theorem brings_inj (c : Dev nD) : Set.InjOn (brings c) inUse := by
  rintro ⟨n, k, j⟩ hx ⟨n', k', j'⟩ hy h
  have hx := (Finset.mem_filter.mp (Finset.mem_coe.mp hx)).2
  have hy := (Finset.mem_filter.mp (Finset.mem_coe.mp hy)).2
  have h1 := congrArg Prod.fst h
  obtain rfl : j = j' := congrArg Prod.snd h
  obtain ⟨rfl, e⟩ := slot_apart c k k' n.val n'.val j hx hy h1
  rw [Fin.ext e]

theorem brings_all (c : Dev nD) : inUse.image (brings c) = (Finset.univ : Finset (Dev nD × Fin 2)).filter fun p => p.1 ≠ c := by
  refine Finset.eq_of_subset_of_card_le (fun p hp => ?_) ?_
  · obtain ⟨x, _, rfl⟩ := Finset.mem_image.mp hp
    exact Finset.mem_filter.mpr ⟨Finset.mem_univ _, slot_away c _ _ x.1.isLt⟩
  · rw [Finset.card_image_of_injOn (brings_inj c), show inUse.card = 62 by decide +kernel]
    revert c; decide +kernel

theorem kept : ∀ c : Dev nD, ((Finset.univ : Finset (Dev nD × Fin 2)).filter fun p => ¬ p.1 ≠ c) = insert (c, 0) {(c, 1)} := by decide +kernel

/-- The whole buffer: the own block, and the half that each lane brings. -/
theorem comm_parts (c : Dev nD) (f : Buf (Elt F) (commLoc c)) :
    (commLoc c ↦{fullShare} f : sProp 𝕄)
      = iprop((hp c c 0 fullShare f ∗ hp c c 1 fullShare f)
          ∗ S I16 fun k n j => if used k n j = true then hp c (slot c k (n + 1)) j fullShare f else iprop(emp)) := by
  have e1 : (commLoc c ↦{fullShare} f : sProp 𝕄) = bigSep (Finset.univ : Finset (Dev nD × Fin 2)) fun p => hp c p.1 p.2 fullShare f := by
    rw [bigSep_univ_prod]
    have e : (commLoc c ↦{fullShare} f : sProp 𝕄) = (commLoc c ↦[(Finset.univ : Finset (Dev nD)).biUnion fset]{fullShare} f) := by rw [fset_univ]
    rw [e, pointsTo_biUnion _ _ fset_disjoint]
    refine bigSep_congr fun s _ => ?_
    rw [bigSep_univ_eq_bigSepL [0, 1] (by decide) (by decide), bigSepL_cons_cons, bigSepL_singleton]
    exact equiv_iff.mp ⟨(blk_halves c s fullShare f).1, (blk_halves c s fullShare f).2⟩
  have e2 : (bigSep ((Finset.univ : Finset (Dev nD × Fin 2)).filter fun p => ¬ p.1 ≠ c) fun p => hp c p.1 p.2 fullShare f : sProp 𝕄)
      = iprop(hp c c 0 fullShare f ∗ hp c c 1 fullShare f) := by
    rw [show ((Finset.univ : Finset (Dev nD × Fin 2)).filter fun p => ¬ p.1 ≠ c) = insert (c, 0) {(c, 1)} from kept c,
      bigSep_insert (by simp), bigSep_singleton]
    rfl
  rw [e1, bigSep_filter_split _ (fun p => p.1 ≠ c), e2, ← brings_all c, bigSep_image_of_injOn (brings_inj c), inUse, bigSep_filter, S_univ]
  exact equiv_iff.mp ⟨BI.sep_comm, BI.sep_comm⟩

/-! ## The start -/

/-- A place for what hop `n` sends: at the neighbour. -/
def PlaceIf (c : Dev nD) (k : Bool) (n : ℕ) (j : Fin 2) : sProp 𝕄 :=
  if used k n j = true then iprop(∃ f : CommC F, hp (nb c k) (slot c k n) j fullShare f) else iprop(emp)
/-- A place for what hop `n` brings: at `c` itself. -/
def RoomIf (c : Dev nD) (k : Bool) (n : ℕ) (j : Fin 2) : sProp 𝕄 :=
  if used k n j = true then iprop(∃ f : CommC F, hp c (slot c k (n + 1)) j fullShare f) else iprop(emp)
/-- The tokens of a send. -/
def TokIf (c : Dev nD) (k : Bool) (n : ℕ) (j : Fin 2) : sProp 𝕄 :=
  if used k n j = true then iprop(dutyTok ER (xC c false k n j) 0 false ∗ dutyTok ER (xC (nb c k) true k n j) 0 false) else iprop(emp)

theorem places_bar (c : Dev nD) : S I16 (PlaceIf (F := F) c) = iprop(barPay c false ∗ barPay c true) := by
  rw [S_both]
  unfold PlaceIf barPay I16
  rw [Nat.Ico_zero_eq_range]

theorem room_bar (c : Dev nD) (k : Bool) : (bigSep I16 fun n => both (RoomIf (F := F) c k n)) = barPay (nb c (!k)) k := by
  unfold RoomIf barPay I16
  rw [Nat.Ico_zero_eq_range]
  refine bigSep_congr fun n _ => ?_
  rw [show nb (nb c (!k)) k = c from nb_nb' c k, ← slot_nb (nb c (!k)) k n, nb_nb']

theorem send_if (c : Dev nD) (k : Bool) (n : ℕ) (j : Fin 2) : iprop(TokIf (F := F) c k n j ∗ PlaceIf (F := F) c k n j) ⊢ SendIf (F := F) c k n j := by
  unfold TokIf PlaceIf SendIf SendRes
  by_cases hu : used k n j = true
  · rw [if_pos hu, if_pos hu, if_pos hu]
    iintro ⟨⟨H1, H2⟩, H3⟩
    isplitl [H1]; · iexact H1
    isplitl [H2]; · iexact H2
    iexact H3
  · rw [if_neg hu, if_neg hu, if_neg hu]
    iintro ⟨-, -⟩
    iempintro

theorem room_of (c : Dev nD) (f : Buf (Elt F) (commLoc c)) (k : Bool) (n : ℕ) (j : Fin 2) :
    (if used k n j = true then hp c (slot c k (n + 1)) j fullShare f else iprop(emp)) ⊢ RoomIf (F := F) c k n j := by
  unfold RoomIf
  by_cases hu : used k n j = true
  · rw [if_pos hu, if_pos hu]
    iintro H
    iexists f
    iexact H
  · rw [if_neg hu, if_neg hu]

variable (K : Dev nD × KI → ℕ) (c : Dev nD) (Q : Post F) (P : PG F)

/-- Both neighbours are told and waited for: each hands over its room. -/
theorem meet_wp :
    iprop(recs m ρ K ∗ S I16 (RoomIf (F := F) c) ∗ dutyTok ER (barC (nb c true)) 0 false ∗ dutyTok ER (barC (nb c false)) 0 true
        ∗ cred (tallyAt (barC c) () 2) ∗ atPos ER (barC c) 0 ∅ 0 ∗ Ow c (O₀ c))
      ⊢ iprop(((Ow c (hopsO c 0 17) ∗ semVal (barC c) 0 ∗ S I16 (PlaceIf (F := F) c)) -∗ WP c P Q) -∗ WP c (meetK (places c) P) Q) := by
  rw [S_both, places_bar, room_bar, room_bar]
  simp only [Bool.not_false, Bool.not_true]
  have hl : Above (lv (barC c) ()) (hopsO c 0 17) := Above.hops c 17 0 (by rw [lv_bar]; decide)
  have hm := recs_mayWait m ρ K c (.reg bar) (hopsO c 0 17) hl
  unfold meetK Ow
  iintro ⟨#HR, ⟨Hf, Ht⟩, Tt, Tf, Hc, Hat, ⟨%W, HO⟩⟩ Hk
  iapply (Rounds.wp_signal 𝒱₀ ER (ringRd m ρ) (c : Thread nD τ) none (dst := (nb c true : Thread nD τ)) (κ := K (kb (nb c true)))
      (d := false) (by rw [duties_bar]; exact Finset.mem_univ _) ((amount_bar m ρ (nb c true) false).trans (by decide)) () (O₁ c) rfl)
    $$ [HO Tt Hf]
  · isplitr; · iapply (recs_inv m ρ K (kb (nb c true))); iexact HR
    isplitl [HO]; · iexact HO
    isplitl [Tt]; · iexact Tt
    isplitl [Hf]; · rw [payload_bar]; iexact Hf
    iapply (recs_reached m ρ K (kb (nb c true))); iexact HR
  iintro HO
  iapply (Rounds.wp_signal 𝒱₀ ER (ringRd m ρ) (c : Thread nD τ) none (dst := (nb c false : Thread nD τ)) (κ := K (kb (nb c false)))
      (d := true) (by rw [duties_bar]; exact Finset.mem_univ _) ((amount_bar m ρ (nb c false) true).trans (by decide)) () (hopsO c 0 17) rfl)
    $$ [HO Tf Ht]
  · isplitr; · iapply (recs_inv m ρ K (kb (nb c false))); iexact HR
    isplitl [HO]; · iexact HO
    isplitl [Tf]; · iexact Tf
    isplitl [Ht]; · rw [payload_bar]; iexact Ht
    iapply (recs_reached m ρ K (kb (nb c false))); iexact HR
  iintro HO
  iapply (Rounds.wp_wait_rest_token 𝒱₀ ER (ringRd m ρ) (c : Thread nD τ) none (κ := K (kb c)) (sm := .reg bar)
      (wpE_semWait_eq 𝒱₀ (c : Thread nD τ) none Set.univ) (Set.mem_univ _) () (O := hopsO c 0 17) (W := W) (R := 0) (m := 0) (T := ∅)
      (by rw [expect_bar]; decide)) $$ [Hc HO Hat]
  · isplitr; · iapply (recs_inv m ρ K (kb c)); iexact HR
    isplitl [Hc]; · iexact Hc
    isplitl [HO]; · iexact HO
    isplitr; · iapply hm; iexact HR
    iexact Hat
  iintro ⟨HO, Hat, -, Hpay⟩
  ihave Hp := (Entails.of_eq (rest_bar m ρ c)) $$ Hpay
  imod (Rounds.cell_close ER (ringRd m ρ) (Set.mem_univ (K (kb c))) (fun h => h) (R := 0 + 1) (duties_later m ρ (barC c))) $$ [Hat] with Hz
  · isplitr; · iapply (recs_inv m ρ K (kb c)); iexact HR
    iexact Hat
  iapply Hk
  isplitl [HO]; · iexists _; iexact HO
  isplitl [Hz]; · iexact Hz
  iexact Hp

theorem ret_wp : Q ⟨⟩ ⊢ WP c (.ret ⟨⟩) Q := by
  unfold WP
  rw [wp_ret]
  iintro H
  imodintro
  iexact H

/-! ## The own block -/

/-- The three shares of an own half: one for each way, one to read. -/
theorem own_shares (j : Fin 2) :
    (hp c c j fullShare (gath m ρ) : sProp 𝕄)
      ⊣⊢ iprop(hp c c j fullShare.left (gath m ρ) ∗ hp c c j fullShare.right.left (gath m ρ) ∗ hp c c j fullShare.right.right (gath m ρ)) := by
  constructor
  · iintro H
    ihave H := (hp_share c c j fullShare (gath m ρ)).1 $$ H
    icases H with ⟨Hl, Hr⟩
    ihave Hr := (hp_share c c j fullShare.right (gath m ρ)).1 $$ Hr
    icases Hr with ⟨Ha, Hb⟩
    isplitl [Hl]; · iexact Hl
    isplitl [Ha] <;> iassumption
  · iintro ⟨Hl, Ha, Hb⟩
    iapply (hp_share c c j fullShare (gath m ρ)).2
    isplitl [Hl]; · iexact Hl
    iapply (hp_share c c j fullShare.right (gath m ρ)).2
    isplitl [Ha] <;> iassumption

theorem first_false (j : Fin 2) : (hp c (slot c false 0) j (sq false 0) (gath m ρ) : sProp 𝕄) = hp c c j fullShare.left (gath m ρ) := by
  rw [slot_zero, show sq false 0 = fullShare.left from if_neg fun h => absurd h.2 (by decide)]
theorem first_true (j : Fin 2) : (hp c (slot c true 0) j (sq true 0) (gath m ρ) : sProp 𝕄) = hp c c j fullShare.right.left (gath m ρ) := by
  rw [slot_zero, show sq true 0 = fullShare.right.left from if_pos ⟨rfl, rfl⟩]

/-- The four sends of hop 0. -/
theorem sends_wp :
    iprop(recs m ρ K ∗ hp c c 0 fullShare (gath m ρ) ∗ hp c c 1 fullShare (gath m ρ) ∗ four (fun k j => SendIf (F := F) c k 0 j) ∗ Ow c (hopsO c 0 17))
      ⊢ iprop(((Ow c (hopsO c 1 16) ∗ four (fun k j => CredIf (F := F) c k 0 j) ∗ hp c c 0 fullShare.right.right (gath m ρ) ∗ hp c c 1 fullShare.right.right (gath m ρ)) -∗ WP c P Q)
          -∗ WP c (sendK ops (places c) false 0 0 <| sendK ops (places c) false 0 1 <| sendK ops (places c) true 0 0 <| sendK ops (places c) true 0 1 P) Q) := by
  have hu : ∀ k j, used k 0 j = true := used_early (by decide)
  have hO : ∀ k j, laneO c k 0 j = tallyAt (xC (nb c k) true k 0 j) () N := fun k j => if_pos (hu k j)
  rw [four_eq, four_eq]
  rw [show hopsO c 0 17 = (((hopsO c 1 16 + laneO c true 0 1) + laneO c true 0 0) + laneO c false 0 1) + laneO c false 0 0 from rfl]
  simp only [hO]
  unfold SendIf CredIf
  simp only [hu, reduceIte]
  iintro ⟨#HR, H0, H1, ⟨S1, S2, S3, S4⟩, HO⟩ Hk
  ihave H0 := (own_shares m ρ c 0).1 $$ H0
  ihave H1 := (own_shares m ρ c 1).1 $$ H1
  icases H0 with ⟨A0, B0, C0⟩
  icases H1 with ⟨A1, B1, C1⟩
  ihave A0 := (Entails.of_eq (first_false m ρ c 0).symm) $$ A0
  ihave A1 := (Entails.of_eq (first_false m ρ c 1).symm) $$ A1
  ihave B0 := (Entails.of_eq (first_true m ρ c 0).symm) $$ B0
  ihave B1 := (Entails.of_eq (first_true m ρ c 1).symm) $$ B1
  iapply (send_wp m ρ K c Q _ false 0 0 (hu _ _) _ _ rfl) $$ [A0 S1 HO]
  · isplitr; · iexact HR
    isplitl [A0]; · iexact A0
    isplitl [S1] <;> iassumption
  iintro ⟨HO, D1⟩
  iapply (send_wp m ρ K c Q _ false 0 1 (hu _ _) _ _ rfl) $$ [A1 S2 HO]
  · isplitr; · iexact HR
    isplitl [A1]; · iexact A1
    isplitl [S2] <;> iassumption
  iintro ⟨HO, D2⟩
  iapply (send_wp m ρ K c Q _ true 0 0 (hu _ _) _ _ rfl) $$ [B0 S3 HO]
  · isplitr; · iexact HR
    isplitl [B0]; · iexact B0
    isplitl [S3] <;> iassumption
  iintro ⟨HO, D3⟩
  iapply (send_wp m ρ K c Q _ true 0 1 (hu _ _) _ _ rfl) $$ [B1 S4 HO]
  · isplitr; · iexact HR
    isplitl [B1]; · iexact B1
    isplitl [S4] <;> iassumption
  iintro ⟨HO, D4⟩
  iapply Hk
  isplitl [HO]; · iexact HO
  isplitl [D1 D2 D3 D4]
  · isplitl [D1]; · iexact D1
    isplitl [D2]; · iexact D2
    isplitl [D3] <;> iassumption
  isplitl [C0] <;> iassumption

/-! ## The end -/

/-- What is kept of a half and what comes back of it make the whole half. -/
theorem whole_if (k : Bool) (n : ℕ) (j : Fin 2) :
    iprop(Keep m ρ c k n j ∗ BackIf m ρ c k (n + 1) j)
      ⊢ (if used k n j = true then hp c (slot c k (n + 1)) j fullShare (gath m ρ) else iprop(emp)) := by
  unfold Keep BackIf
  rw [sq_later]
  by_cases hu : used k n j = true
  · rw [if_pos hu, if_pos hu]
    by_cases hv : used k (n + 1) j = true
    · rw [if_pos hv, if_pos hv]
      iintro ⟨⟨Hr, -⟩, Hl⟩
      iapply (hp_share c (slot c k (n + 1)) j fullShare (gath m ρ)).2
      isplitl [Hl] <;> iassumption
    · rw [if_neg hv, if_neg hv]
      iintro ⟨⟨Hr, Hl⟩, -⟩
      iapply (hp_share c (slot c k (n + 1)) j fullShare (gath m ρ)).2
      isplitl [Hl] <;> iassumption
  · rw [if_neg hu, if_neg hu, if_neg fun h => hu (used_prev h)]
    iintro ⟨-, -⟩
    iempintro

/-- The own block is whole again. -/
theorem own_whole :
    iprop(four (fun k j => BackIf m ρ c k 0 j) ∗ hp c c 0 fullShare.right.right (gath m ρ) ∗ hp c c 1 fullShare.right.right (gath m ρ))
      ⊢ iprop(hp c c 0 fullShare (gath m ρ) ∗ hp c c 1 fullShare (gath m ρ)) := by
  have hu : ∀ k j, used k 0 j = true := used_early (by decide)
  rw [four_eq]
  unfold BackIf
  simp only [hu, reduceIte]
  rw [first_false, first_false, first_true, first_true]
  iintro ⟨⟨A0, A1, B0, B1⟩, C0, C1⟩
  isplitl [A0 B0 C0]
  · iapply (own_shares m ρ c 0).2
    isplitl [A0]; · iexact A0
    isplitl [B0] <;> iassumption
  iapply (own_shares m ρ c 1).2
  isplitl [A1]; · iexact A1
  isplitl [B1] <;> iassumption

/-! ## The body -/

/-- What the body starts with, besides the records. -/
def Start : sProp 𝕄 :=
  iprop(atPos ER (barC c) 0 ∅ 0 ∗ cred (tallyAt (barC c) () 2) ∗ dutyTok ER (barC (nb c true)) 0 false ∗ dutyTok ER (barC (nb c false)) 0 true
    ∗ S I16 (RecvRes (F := F) c) ∗ S I16 (TokIf (F := F) c) ∗ S I16 (fun k n j => atPos ER (xC c false k n j) 0 ∅ 0))

/-- What it leaves of the semaphores. -/
def Finish : sProp 𝕄 :=
  iprop(semVal (barC c) 0 ∗ S I16 (fun k n j => semVal (xC c true k n j) 0) ∗ S I16 (fun k n j => semVal (xC c false k n j) 0))

theorem body_wp (f : Buf (Elt F) (commLoc c)) (g : Buf (Elt F) ((c : Thread nD τ).loc cc0_stg2_0)) :
    iprop(recs m ρ K ∗ Start (F := F) c ∗ Ow c (O₀ c) ∗ xPt m ρ c ∗ wPt m ρ c ∗ (commLoc c ↦{fullShare} f)
        ∗ ((c : Thread nD τ).loc cc0_stg2_0 ↦{fullShare} g))
      ⊢ iprop(((Ow c 0 ∗ Finish (F := F) c ∗ xPt m ρ c ∗ wPt m ρ c ∗ (commLoc c ↦{fullShare} gath m ρ)
            ∗ ((c : Thread nD τ).loc cc0_stg2_0 ↦{fullShare} outF m ρ c)) -∗ Q ⟨⟩)
          -∗ WP c (progK ops (places c)) Q) := by
  rw [comm_parts c f, comm_parts c (gath m ρ)]
  unfold Start Finish progK
  iintro ⟨#HR, ⟨Hat, Hc, Tt, Tf, RS, TS, AS⟩, HO, Hx, Hw, ⟨⟨H0, H1⟩, Hroom⟩, Ho⟩ Hk
  ihave Hroom := (S_mono (fun n _ k j => room_of c f k n j)) $$ Hroom
  iapply (meet_wp m ρ K c Q _) $$ [Hroom Tt Tf Hc Hat HO]
  · isplitr; · iexact HR
    isplitl [Hroom]; · iexact Hroom
    isplitl [Tt]; · iexact Tt
    isplitl [Tf]; · iexact Tf
    isplitl [Hc]; · iexact Hc
    isplitl [Hat] <;> iassumption
  iintro ⟨HO, Hzb, Hpl⟩
  -- the own block
  iapply (own_wp m ρ c Q _ f) $$ [Hx H0 H1]
  · isplitl [Hx]; · iexact Hx
    iapply (blk_halves c c fullShare f).2
    isplitl [H0] <;> iassumption
  iintro ⟨Hx, Hown⟩
  ihave Hown := (blk_halves c c fullShare (gath m ρ)).1 $$ Hown
  icases Hown with ⟨H0, H1⟩
  -- what every send takes
  icombine TS Hpl as HS
  ihave HS := (Entails.of_eq (S_sep I16 (TokIf (F := F) c) (PlaceIf (F := F) c)).symm) $$ HS
  ihave HS := (S_mono (fun n _ k j => send_if c k n j)) $$ HS
  ihave HS := (Entails.of_eq (S_shift (SendIf (F := F) c) fun k j => by unfold SendIf; rw [used_last]; rfl)) $$ HS
  icases HS with ⟨HS0, HS⟩
  iapply (sends_wp m ρ K c Q _) $$ [H0 H1 HS0 HO]
  · isplitr; · iexact HR
    isplitl [H0]; · iexact H0
    isplitl [H1]; · iexact H1
    isplitl [HS0] <;> iassumption
  iintro ⟨HO, HC0, H0, H1⟩
  iapply (rows_wp m ρ c Q _ false 0 (by decide) fullShare.right.right ∅) $$ [H0 H1 Hw Ho]
  · isplitl [H0 H1]
    · rw [slot_zero]
      iapply (blk_halves c c fullShare.right.right (gath m ρ)).2
      isplitl [H0] <;> iassumption
    isplitl [Hw]; · iexact Hw
    unfold Out
    iexists g
    isplitl [Ho]; · iexact Ho
    ipureintro
    exact fun i hi => absurd hi (Finset.notMem_empty _)
  rw [slot_zero]
  iintro ⟨Hown, Hw, Ho⟩
  ihave Hown := (blk_halves c c fullShare.right.right (gath m ρ)).1 $$ Hown
  icases Hown with ⟨H0, H1⟩
  -- the hops
  iapply (hops_wp m ρ K c Q 16 0 (by decide) _) $$ [RS HS HO Hw Ho]
  · isplitr; · iexact HR
    isplitl [RS]; · iexact RS
    isplitl [HS]; · iexact HS
    isplitl [HO]; · iexact HO
    isplitl [Hw]; · iexact Hw
    iexact Ho
  iintro ⟨HL, HO, Hw, Ho⟩
  unfold LanePost
  ihave HL := (Entails.of_eq (S_sep I16 (fun k n j => iprop(semVal (xC c true k n j) 0 ∗ Keep m ρ c k n j)) (fun k n j => CredIf (F := F) c k (n + 1) j))) $$ HL
  icases HL with ⟨HL, HC⟩
  ihave HL := (Entails.of_eq (S_sep I16 (fun k n j => semVal (xC c true k n j) 0) (Keep m ρ c))) $$ HL
  icases HL with ⟨HZ, HK⟩
  icombine HC0 HC as HC
  ihave HC := (Entails.of_eq (S_shift (CredIf (F := F) c) fun k j => by unfold CredIf; rw [used_last]; rfl).symm) $$ HC
  icombine AS HC as HD
  ihave HD := (Entails.of_eq (S_sep I16 (fun k n j => atPos ER (xC c false k n j) 0 ∅ 0) (CredIf (F := F) c)).symm) $$ HD
  -- the closing waits
  iapply (dones_wp m ρ K c Q 16 0 (by decide) _) $$ [HD HO]
  · isplitr; · iexact HR
    isplitl [HD]; · iexact HD
    iexact HO
  iintro ⟨HD, HO⟩
  unfold SentPost
  ihave HD := (Entails.of_eq (S_sep I16 (fun k n j => semVal (xC c false k n j) 0) (BackIf m ρ c))) $$ HD
  icases HD with ⟨HY, HB⟩
  ihave HB := (Entails.of_eq (S_shift (BackIf m ρ c) fun k j => by unfold BackIf; rw [used_last]; rfl)) $$ HB
  icases HB with ⟨HB0, HB⟩
  icombine HK HB as HK
  ihave HK := (Entails.of_eq (S_sep I16 (Keep m ρ c) (fun k n j => BackIf m ρ c k (n + 1) j)).symm) $$ HK
  ihave HK := (S_mono (fun n _ k j => whole_if m ρ c k n j)) $$ HK
  iapply (ret_wp c Q)
  iapply Hk
  isplitl [HO]; · iexact HO
  isplitl [Hzb HZ HY]
  · isplitl [Hzb]; · iexact Hzb
    isplitl [HZ] <;> iassumption
  isplitl [Hx]; · iexact Hx
  isplitl [Hw]; · iexact Hw
  isplitl [HB0 H0 H1 HK]
  · isplitl [HB0 H0 H1]
    · iapply (own_whole m ρ c)
      isplitl [HB0]; · iexact HB0
      isplitl [H0] <;> iassumption
    iexact HK
  unfold Out
  icases Ho with ⟨%f', Ho, %hf⟩
  have e : f' = outF m ρ c := funext fun i => hf i (by rw [done_all c]; exact Finset.mem_univ _)
  rw [← e]
  iexact Ho

end Cert.KernelIdeal.Ring

end

end
-- ==== Proof.KernelIdeal.Deal.lean ====
/- What the launch deals: the cells, the tokens and the credit of every device. -/
module

public import proofs.«01_k».proof.Proof.KernelIdeal.Whole

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## The semaphores, listed by lane -/

/-- The semaphores of the transfers. -/
abbrev KX : Type := Bool × Bool × Fin 16 × Fin 2

/-- The lanes, hop first or direction first. -/
def lanes : LI ≃ Bool × Fin 16 × Fin 2 :=
  ⟨fun x => (x.2.1, x.1, x.2.2), fun y => (y.2.1, (y.1, y.2.2)), fun _ => rfl, fun _ => rfl⟩

theorem ofNat_self (h : Fin 16) : Fin.ofNat 16 h.val = h := Fin.ext (ofNat_val h.isLt)

theorem KX_parts (Φ : KX → sProp 𝕄) :
    bigSep Finset.univ Φ = iprop((S I16 fun k n j => Φ (false, k, Fin.ofNat 16 n, j)) ∗ S I16 fun k n j => Φ (true, k, Fin.ofNat 16 n, j)) := by
  have e : ∀ r : Bool, (bigSep Finset.univ fun y : Bool × Fin 16 × Fin 2 => Φ (r, y)) = S I16 fun k n j => Φ (r, k, Fin.ofNat 16 n, j) := by
    intro r
    rw [S_univ, bigSep_univ_equiv lanes]
    exact bigSep_congr fun x _ => by rw [ofNat_self]; rfl
  rw [bigSep_univ_prod, bigSep_univ_eq_bigSepL [false, true] (by decide) (by decide), bigSepL_cons_cons, bigSepL_singleton, e, e]
  rfl

theorem KI_parts (Φ : KI → sProp 𝕄) :
    bigSep Finset.univ Φ = iprop(Φ (.inl ()) ∗ (S I16 fun k n j => Φ (.inr (false, k, Fin.ofNat 16 n, j))) ∗ S I16 fun k n j => Φ (.inr (true, k, Fin.ofNat 16 n, j))) := by
  rw [bigSep_univ_sum, KX_parts fun x => Φ (.inr x), bigSep_univ_eq_bigSepL [()] (by decide) (by decide), bigSepL_singleton]
  rfl

/-- A family over the devices and the lanes, told by the neighbour each lane leads to. -/
theorem around (Φ : Dev nD → Bool → ℕ → Fin 2 → sProp 𝕄) :
    (bigSep Finset.univ fun c : Dev nD => S I16 (Φ c)) = bigSep Finset.univ fun c : Dev nD => S I16 fun k n j => Φ (nb c k) k n j := by
  let e : Dev nD × LI ≃ Dev nD × LI := ⟨fun p => (nb p.1 p.2.2.1, p.2), fun p => (nb p.1 (!p.2.2.1), p.2),
    fun p => by
      rcases p with ⟨c, x⟩
      exact Prod.ext (nb_nb c x.2.1) rfl,
    fun p => by
      rcases p with ⟨c, x⟩
      exact Prod.ext (nb_nb' c x.2.1) rfl⟩
  have h1 : (bigSep Finset.univ fun c : Dev nD => S I16 (Φ c)) = bigSep Finset.univ fun p : Dev nD × LI => Φ p.1 p.2.2.1 p.2.1.val p.2.2.2 := by
    rw [bigSep_univ_prod]; exact bigSep_congr fun c _ => S_univ _
  have h2 : (bigSep Finset.univ fun c : Dev nD => S I16 fun k n j => Φ (nb c k) k n j)
      = bigSep Finset.univ fun p : Dev nD × LI => Φ (nb p.1 p.2.2.1) p.2.2.1 p.2.1.val p.2.2.2 := by
    rw [bigSep_univ_prod]; exact bigSep_congr fun c _ => S_univ _
  rw [h1, h2, bigSep_univ_equiv e]
  rfl

/-! ## Cells and tokens -/

theorem ksem_injective : Function.Injective ksem := by
  rintro (⟨⟩ | ⟨r, k, h, j⟩) (⟨⟩ | ⟨r', k', h', j'⟩) e
  · rfl
  · exact absurd e (by unfold ksem; exact fun h => by cases h)
  · exact absurd e (by unfold ksem; exact fun h => by cases h)
  · have e' : xsem r k h j = xsem r' k' h' j' := by unfold ksem at e; exact SemLoc.dma.inj e
    have := congrArg role e'
    rw [role_xsem, role_xsem] at this
    rw [Option.some.inj this]

theorem kcell_injective : Function.Injective (kcell : Dev nD × KI → GSem nD τ sig) := by
  rintro ⟨c, k⟩ ⟨c', k'⟩ h
  have h1 : c = c' := congrArg (fun g : GSem nD τ sig => g.1.1) h
  have h2 : k = k' := ksem_injective (congrArg Prod.snd h)
  rw [h1, h2]

/-- Every cell of the ring. -/
def ringCells : Finset (GSem nD τ sig) := Finset.univ.map ⟨kcell, kcell_injective⟩

/-- A device's tokens: two for its barrier, one for each transfer's semaphore. -/
abbrev TI : Type := Bool ⊕ KX

def tokOf (p : Dev nD × TI) : GSem nD τ sig × ℕ × Bool := match p.2 with
  | .inl d => (barC p.1, 0, d)
  | .inr x => (kcell (p.1, .inr x), 0, false)

theorem tokOf_injective : Function.Injective tokOf := by
  rintro ⟨c, x⟩ ⟨c', x'⟩ h
  rcases x with d | x <;> rcases x' with d' | x'
  · have h1 : c = c' := congrArg (fun y : GSem nD τ sig × ℕ × Bool => y.1.1.1) h
    have h2 : d = d' := congrArg (fun y : GSem nD τ sig × ℕ × Bool => y.2.2) h
    rw [h1, h2]
  · have := kcell_injective (a₁ := (c, .inl ())) (a₂ := (c', .inr x')) (congrArg Prod.fst h)
    exact absurd (congrArg Prod.snd this) (fun h => by cases h)
  · have := kcell_injective (a₁ := (c, .inr x)) (a₂ := (c', .inl ())) (congrArg Prod.fst h)
    exact absurd (congrArg Prod.snd this) (fun h => by cases h)
  · have := kcell_injective (a₁ := (c, .inr x)) (a₂ := (c', .inr x')) (congrArg Prod.fst h)
    have h1 : c = c' := congrArg Prod.fst this
    have h2 : x = x' := Sum.inr.inj (congrArg Prod.snd this)
    rw [h1, h2]

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of a device's own cells. -/
def toks (c : Dev nD) : sProp 𝕄 := bigSep Finset.univ fun x : TI => dutyTok ER (tokOf (c, x)).1 (tokOf (c, x)).2.1 (tokOf (c, x)).2.2

/-- What the launch gives each device. -/
def G (c : Dev nD) : sProp 𝕄 :=
  iprop((bigSep Finset.univ fun k : KI => roundState ER (ringRd m ρ) (kcell (c, k)) 0)
    ∗ (bigSep Finset.univ fun k : KI => iprop(atPos ER (kcell (c, k)) 0 ∅ 0 ∗ reached ER (kcell (c, k)) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The kernel's own semaphores -/

def osem (x : KX) : SemLoc sig := ksem (.inr x)

theorem ownSemFacts : Pipeline.OwnSemFacts cfg0.spec osem :=
  ⟨by decide +kernel, fun x y h => Sum.inr.inj (ksem_injective h), by decide +kernel⟩

theorem ownSems0_eq (c : Dev nD) : (Pipeline.ownSems0 (Ix := Unit) (Name := ℕ) (U := UU) (Lvl := ℕ) (Val := Elt F) (τ := τ) osem c : sProp 𝕄)
    = iprop((S I16 fun k n j => semVal (xC c false k n j) 0) ∗ S I16 fun k n j => semVal (xC c true k n j) 0) := by
  unfold Pipeline.ownSems0; rw [KX_parts]; rfl

/-- The barrier is the one semaphore that outlives the kernel. -/
theorem unscopedSems0_eq (c : Dev nD) : (unscopedSems0 c : sProp 𝕄) = semVal (barC c) 0 := by
  unfold unscopedSems0; rw [bigSep_eq_bigSepL_of_eq [SemLoc.reg bar] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [ownSems0_eq, unscopedSems0_eq, KI_parts]
  iintro ⟨HX, HB⟩
  isplitl [HB]; · iexact HB
  iexact HX

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KI => semVal (kcell (c, k)) 0) ∗ bigSep Finset.univ fun k : KI => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to those who pay with them -/

/-- The records without the levels. -/
def marks (K : Dev nD × KI → ℕ) : sProp 𝕄 :=
  iprop((bigSep (Finset.univ : Finset (Dev nD × KI)) fun p => cellInv ER (ringRd m ρ) (K p) (kcell p))
    ∗ bigSep (Finset.univ : Finset (Dev nD × KI)) fun p => reached ER (kcell p) 0)

instance marks_persistent (K : Dev nD × KI → ℕ) : BI.Persistent (marks m ρ K) := by unfold marks; infer_instance

/-- The tokens a device pays with. -/
def pays (c : Dev nD) : sProp 𝕄 :=
  iprop((dutyTok ER (barC (nb c true)) 0 false ∗ dutyTok ER (barC (nb c false)) 0 true)
    ∗ (S I16 fun k n j => dutyTok ER (xC c false k n j) 0 false) ∗ S I16 fun k n j => dutyTok ER (xC (nb c k) true k n j) 0 false)

theorem toks_parts (c : Dev nD) :
    (toks c : sProp 𝕄) = iprop((dutyTok ER (barC c) 0 false ∗ dutyTok ER (barC c) 0 true)
      ∗ (S I16 fun k n j => dutyTok ER (xC c false k n j) 0 false) ∗ S I16 fun k n j => dutyTok ER (xC c true k n j) 0 false) := by
  unfold toks
  rw [bigSep_univ_sum, KX_parts, bigSep_univ_eq_bigSepL [false, true] (by decide) (by decide), bigSepL_cons_cons, bigSepL_singleton]
  rfl

theorem toks_around : (bigSep Finset.univ fun c : Dev nD => (toks c : sProp 𝕄)) = bigSep Finset.univ fun c : Dev nD => pays c := by
  rw [bigSep_congr fun c _ => toks_parts c]
  unfold pays
  rw [bigSep_sep', bigSep_sep', bigSep_sep', bigSep_sep', bigSep_sep', bigSep_sep',
    around fun c k n j => dutyTok ER (xC c true k n j) 0 false,
    bigSep_univ_equiv (turn true) (fun c : Dev nD => (dutyTok ER (barC c) 0 false : sProp 𝕄)),
    bigSep_univ_equiv (turn false) (fun c : Dev nD => (dutyTok ER (barC c) 0 true : sProp 𝕄))]
  rfl

/-- What each device has after the launch, besides its credit. -/
def G' (c : Dev nD) : sProp 𝕄 :=
  iprop(∃ K, marks m ρ K ∗ (bigSep Finset.univ fun k : KI => atPos ER (kcell (c, k)) 0 ∅ 0) ∗ pays c)

theorem with_marks {I : Type} [DecidableEq I] {T : Finset I} {R : sProp 𝕄} [BI.Persistent R] {Φ Ψ : I → sProp 𝕄}
    (h : ∀ i ∈ T, iprop(R ∗ Φ i) ⊢ Ψ i) : iprop(R ∗ bigSep T Φ) ⊢ bigSep T Ψ :=
  (sep_mono_left (BI.bigSep_of_persistent T R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun p : Dev nD × KI => iprop(∃ κ : ℕ, cellInv ER (ringRd m ρ) κ (kcell p))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun p : Dev nD × KI => (reached ER (kcell p) 0 : sProp 𝕄)), toks_around]
  iintro ⟨HI, ⟨Hat, #HR⟩, Htok⟩
  ihave HK := (BI.bigSep_exists_pi Finset.univ (fun (p : Dev nD × KI) (κ : ℕ) => (cellInv ER (ringRd m ρ) κ (kcell p) : sProp 𝕄))) $$ HI
  icases HK with ⟨%K, #HI⟩
  iapply (with_marks (R := marks m ρ K) (Φ := fun c : Dev nD => iprop((bigSep Finset.univ fun k : KI => atPos ER (kcell (c, k)) 0 ∅ 0) ∗ pays c)) fun c _ => by
    unfold G'
    iintro ⟨#HM, Ha, Hp⟩
    iexists K
    isplitr; · iexact HM
    isplitl [Ha] <;> iassumption)
  isplitr
  · unfold marks; isplitl; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem xC_inj {c c' : Dev nD} {r r' k k' : Bool} {n n' : ℕ} {j j' : Fin 2} (hn : n < 16) (hn' : n' < 16) (h : xC c r k n j = xC c' r' k' n' j') :
    c = c' ∧ k = k' ∧ n = n' ∧ j = j' := by
  have h' := kcell_injective (a₁ := kx c r k n j) (a₂ := kx c' r' k' n' j') h
  have h1 := congrArg Prod.fst h'
  have h2 := Sum.inr.inj (congrArg Prod.snd h')
  have e1 := congrArg (fun y : KX => y.2.1) h2
  have e2 := congrArg (fun y : KX => y.2.2.1.val) h2
  have e3 := congrArg (fun y : KX => y.2.2.2) h2
  dsimp only at e1 e2 e3
  rw [ofNat_val hn, ofNat_val hn'] at e2
  exact ⟨h1, e1, e2, e3⟩

theorem bar_ne (c c' : Dev nD) (r k : Bool) (n : ℕ) (j : Fin 2) : barC c ≠ xC c' r k n j := fun h => by
  have := congrArg Prod.snd h; cases this

theorem nb_iff (d c : Dev nD) (k : Bool) : Iff (nb d k = c) (d = nb c (!k)) :=
  ⟨fun h => by rw [← h, nb_nb], fun h => by rw [h, nb_nb']⟩

theorem lane_bar (d c : Dev nD) (k : Bool) (n : ℕ) (j : Fin 2) : laneO d k n j (barC c) () = 0 := by
  unfold laneO
  split
  · rw [tallyAt_ne_cell (bar_ne c _ _ _ _ _)]; rfl
  · rfl

theorem hops_bar (d c : Dev nD) (r : ℕ) : ∀ n, hopsO d n r (barC c) () = 0 := by
  induction r with
  | zero => intro n; rfl
  | succ r ih =>
    intro n
    unfold hopsO
    simp only [Pi.add_apply, Finsupp.add_apply, lane_bar, ih, Nat.add_zero]

theorem lane_x (d c : Dev nD) (k : Bool) (n : ℕ) (j : Fin 2) (k' : Bool) (n' : ℕ) (hn' : n' < 16) (j' : Fin 2) :
    laneO d k n j (xC c true k' n' j') () = if (k = k' ∧ n = n' ∧ j = j') ∧ used k' n' j' = true ∧ d = nb c (!k') then N else 0 := by
  unfold laneO
  by_cases hu : used k n j = true
  · rw [if_pos hu, tallyAt_apply]
    by_cases h : (k = k' ∧ n = n' ∧ j = j') ∧ used k' n' j' = true ∧ d = nb c (!k')
    · obtain ⟨⟨rfl, rfl, rfl⟩, -, h4⟩ := h
      have e := (nb_iff d c k).mpr h4
      rw [e, if_pos ⟨rfl, rfl⟩, if_pos ⟨⟨rfl, rfl, rfl⟩, hu, h4⟩]
    · rw [if_neg h, if_neg]
      rintro ⟨e, -⟩
      obtain ⟨h1, h2, h3, h4⟩ := xC_inj hn' (used_lt hu) e
      exact h ⟨⟨h2.symm, h3.symm, h4.symm⟩, by rw [h2, h3, h4]; exact hu, (nb_iff d c k').mp (by rw [h2]; exact h1.symm)⟩
  · rw [if_neg hu, if_neg]
    · rfl
    · rintro ⟨⟨rfl, rfl, rfl⟩, h, -⟩
      exact hu h

theorem hops_x (d c : Dev nD) (k : Bool) (n : ℕ) (hn : n < 16) (j : Fin 2) (r : ℕ) : ∀ a,
    hopsO d a r (xC c true k n j) () = if (a ≤ n ∧ n < a + r) ∧ used k n j = true ∧ d = nb c (!k) then N else 0 := by
  induction r with
  | zero =>
    intro a
    rw [if_neg (by rintro ⟨⟨h1, h2⟩, -⟩; omega)]; rfl
  | succ r ih =>
    intro a
    unfold hopsO
    simp only [Pi.add_apply, Finsupp.add_apply, lane_x _ _ _ _ _ _ _ hn, ih]
    by_cases hp : used k n j = true ∧ d = nb c (!k)
    · simp only [hp, and_self, and_true]
      by_cases ha : a = n
      · subst ha
        rw [if_neg (by omega), if_pos (show a ≤ a ∧ a < a + (r + 1) by omega)]
        clear hp
        cases k <;> fin_cases j <;> simp
      · simp only [ha, false_and, and_false, if_false, Nat.add_zero]
        by_cases hb : a + 1 ≤ n ∧ n < a + 1 + r
        · rw [if_pos hb, if_pos (by omega)]
        · rw [if_neg hb, if_neg (by omega)]
    · simp only [hp, and_false, if_false, Nat.add_zero]

theorem owed_bar (d c : Dev nD) : O₀ d (barC c) () = (if d = nb c true then 1 else 0) + (if d = nb c false then 1 else 0) := by
  have one : ∀ k : Bool, tallyAt (Ix := Unit) (barC (nb d k)) () 1 (barC c) () = if d = nb c (!k) then 1 else 0 := by
    intro k
    rw [tallyAt_apply]
    by_cases h : d = nb c (!k)
    · rw [if_pos h, (nb_iff d c k).mpr h, if_pos ⟨rfl, rfl⟩]
    · rw [if_neg h, if_neg]
      rintro ⟨e, -⟩
      exact h ((nb_iff d c k).mp (congrArg (fun g : GSem nD τ sig => g.1.1) e).symm)
  unfold O₀ O₁
  simp only [Pi.add_apply, Finsupp.add_apply, hops_bar, one, Bool.not_false, Bool.not_true, Nat.zero_add]

theorem owed_x (d c : Dev nD) (k : Bool) (n : ℕ) (j : Fin 2) (hu : used k n j = true) : O₀ d (xC c true k n j) () = if d = nb c (!k) then N else 0 := by
  have none : ∀ k' : Bool, tallyAt (Ix := Unit) (barC (nb d k')) () 1 (xC c true k n j) () = 0 := by
    intro k'
    rw [tallyAt_ne_cell (bar_ne _ _ _ _ _ _).symm]; rfl
  unfold O₀ O₁
  simp only [Pi.add_apply, Finsupp.add_apply, none, hops_x d c k n (used_lt hu) j, Nat.add_zero]
  have := used_lt hu
  by_cases h : d = nb c (!k)
  · rw [if_pos h, if_pos ⟨⟨by omega, by omega⟩, hu, h⟩]
  · rw [if_neg h, if_neg fun h' => h h'.2.2]

theorem launch_bar (c : Dev nD) :
    tallyOn (barC c) (launchCredit (Pipeline.owing O₀) 0 (barC c)) = (tallyAt (barC c) () 2 : Tal) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb c true) fun _ => 1, Finset.sum_ite_eq' Finset.univ (nb c false) fun _ => 1, if_pos (Finset.mem_univ _), if_pos (Finset.mem_univ _)]

theorem launch_x (c : Dev nD) (k : Bool) (n : ℕ) (j : Fin 2) (hu : used k n j = true) :
    tallyOn (xC c true k n j) (launchCredit (Pipeline.owing O₀) 0 (xC c true k n j)) = (tallyAt (xC c true k n j) () N : Tal) := by
  unfold tallyAt; refine congrArg _ (Finsupp.ext fun u => ?_); cases u
  rw [Pipeline.launchCredit_owing, Finsupp.single_eq_same, Finset.sum_congr rfl fun d _ => owed_x d c k n j hu,
    Finset.sum_ite_eq' Finset.univ (nb c (!k)) fun _ => N, if_pos (Finset.mem_univ _)]

/-- The credit for the arrival of a lane. -/
def DueIf (c : Dev nD) (k : Bool) (n : ℕ) (j : Fin 2) : sProp 𝕄 := if used k n j = true then cred (tallyAt (xC c true k n j) () N) else iprop(emp)

theorem creds (c : Dev nD) : (Pipeline.launchCred O₀ c : sProp 𝕄) ⊢ iprop(cred (tallyAt (barC c) () 2) ∗ S I16 (DueIf (F := F) c)) := by
  unfold Pipeline.launchCred
  rw [bigSep_sdiff_split (Finset.subset_univ (Finset.univ.map ⟨ksem, ksem_injective⟩)), bigSep_map, KI_parts]
  refine (show _ ⊢ _ from ?_ : iprop((cred (tallyOn (barC c) (launchCredit (Pipeline.owing O₀) 0 (barC c)))
      ∗ (S I16 fun k n j => cred (tallyOn (xC c false k n j) (launchCredit (Pipeline.owing O₀) 0 (xC c false k n j))))
      ∗ S I16 fun k n j => cred (tallyOn (xC c true k n j) (launchCredit (Pipeline.owing O₀) 0 (xC c true k n j))))
      ∗ bigSep (Finset.univ \ Finset.univ.map ⟨ksem, ksem_injective⟩) fun sm => cred (tallyOn ((c : Thread nD τ), sm) (launchCredit (Pipeline.owing O₀) 0 ((c : Thread nD τ), sm)))) ⊢ _)
  rw [launch_bar]
  iintro ⟨⟨HB, -, HX⟩, -⟩
  isplitl [HB]; · iexact HB
  iapply (S_mono (Φ := fun k n j => cred (tallyOn (xC c true k n j) (launchCredit (Pipeline.owing O₀) 0 (xC c true k n j)))) (fun n _ k j => by
    unfold DueIf
    by_cases hu : used k n j = true
    · rw [if_pos hu, launch_x c k n j hu]
    · rw [if_neg hu]; iintro -; iempintro))
  iexact HX

/-- What the body starts with, from what the launch gives. -/
theorem start_of (c : Dev nD) :
    iprop((bigSep Finset.univ fun k : KI => atPos ER (kcell (c, k)) 0 ∅ 0) ∗ pays c ∗ Pipeline.launchCred O₀ c) ⊢ Start (F := F) c := by
  rw [KI_parts]
  unfold pays Start RecvRes
  iintro ⟨⟨Hb, Hs, Hr⟩, ⟨⟨T1, T2⟩, Ts, Tr⟩, Hc⟩
  ihave Hc := (creds (F := F) c) $$ Hc
  icases Hc with ⟨H2, HN⟩
  isplitl [Hb]; · iexact Hb
  isplitl [H2]; · iexact H2
  isplitl [T1]; · iexact T1
  isplitl [T2]; · iexact T2
  isplitl [Hr HN]
  · iapply (Entails.of_eq (S_sep I16 (fun k n j => atPos ER (xC c true k n j) 0 ∅ 0) (DueIf (F := F) c)).symm)
    isplitl [Hr]; · iexact Hr
    iexact HN
  isplitl [Ts Tr]
  · icombine Ts Tr as T
    ihave T := (Entails.of_eq (S_sep I16 (fun k n j => dutyTok ER (xC c false k n j) 0 false) (fun k n j => dutyTok ER (xC (nb c k) true k n j) 0 false)).symm) $$ T
    iapply (S_mono (Φ := fun k n j => iprop(dutyTok ER (xC c false k n j) 0 false ∗ dutyTok ER (xC (nb c k) true k n j) 0 false)) (fun n _ k j => by
      unfold TokIf
      split
      · iintro H; iexact H
      · iintro -; iempintro))
    iexact T
  iexact Hs

end Cert.KernelIdeal.Ring

end

end
-- ==== Proof.KernelIdeal.Run.lean ====
/- The run of the whole program. -/
module

public import proofs.«01_k».proof.Proof.KernelIdeal.Deal
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## What holds before the kernel's body and after it -/

def start (c : Dev nD) : sProp 𝕄 := iprop((∃ K, recs m ρ K) ∗ Start (F := F) c)

def Φ₀ (c : Dev nD) : sProp 𝕄 := iprop(start m ρ c ∗ ∃ f, commLoc c ↦{fullShare} f)

def Φ₁ (c : Dev nD) : sProp 𝕄 := iprop((commLoc c ↦{fullShare} gath m ρ) ∗ Finish (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outF m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem held_of (c : Dev nD) (b : Ref sig .tc) (X : b.ty.Contents (Elt F)) :
    (((c : Thread nD τ).loc b) ↦{fullShare} X : sProp 𝕄) ⊢ held c b X := by
  iintro H
  iexists X
  isplitr; · ipureintro; rfl
  iexact H

def Pre (c : Dev nD) : sProp 𝕄 :=
  iprop(Φ₀ m ρ c ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))

def Done' (c : Dev nD) : sProp 𝕄 :=
  iprop(Φ₁ m ρ c ∗ (dats m ρ 0 c).owesAt () t0_0.succ ∗ held c cc0_stg0_0 (xstg m ρ c) ∗ held c cc0_stg1_0 (wstg m ρ c) ∗ held c cc0_stg2_0 (outF m ρ c))

theorem before_x (c : Dev nD) (d) : (dats m ρ 0 c).before (0 : Fin 3) t0_0 d = xstg m ρ c := by
  unfold Dat.before; rw [if_pos (fetch0_0 t0_0)]; rfl

theorem before_w (c : Dev nD) (d) : (dats m ρ 0 c).before (1 : Fin 3) t0_0 d = wstg m ρ c := by
  unfold Dat.before; rw [if_pos (fetch0_1 t0_0)]; rfl

theorem owes_in (c : Dev nD) : ((dats m ρ 0 c).owesAt () t0_0.castSucc : sProp 𝕄) ⊢ Ow (F := F) c (O₀ c) := by
  unfold Dat.owesAt Pipeline.owesWithin Ow
  iintro ⟨%W, -, HO⟩
  iexists W
  iexact HO

theorem owes_out (c : Dev nD) : Ow (F := F) c 0 ⊢ ((dats m ρ 0 c).owesAt () t0_0.succ : sProp 𝕄) := by
  unfold Dat.owesAt Pipeline.owesWithin Ow
  iintro ⟨%W, HO⟩
  iexists W
  isplitr; · ipureintro; exact fun _ _ => Or.inl trivial
  iexact HO

theorem sound (c : Dev nD) : Pre m ρ c ⊢ WP c (.op .deviceId fun d => progK (F := F) ops (places d)) fun _ => Done' m ρ c := by
  refine BIBase.Entails.trans ?_ (show WP c (progK (F := F) ops (places c)) (fun _ => Done' m ρ c) ⊢ _ from by
    show _ ⊢ wp frame (wpE (defs₀ (F := F)) 𝒱₀ (c : Thread nD τ) none) Set.univ _ _
    rw [wp_deviceId])
  unfold Pre Φ₀ start
  iintro ⟨⟨⟨⟨%K, #HR⟩, HS⟩, ⟨%f, Hf⟩⟩, HO, ⟨%d0, %g0, %h0, Hx⟩, ⟨%d1, %g1, %h1, Hw⟩, ⟨%d2, %g2, -, Ho⟩⟩
  have e0 : g0 = xstg m ρ c := h0.trans (before_x m ρ c d0)
  have e1 : g1 = wstg m ρ c := h1.trans (before_w m ρ c d1)
  subst e0 e1
  ihave HO := (owes_in m ρ c) $$ HO
  iapply (body_wp m ρ K c (fun _ => Done' m ρ c) f g2) $$ [HS Hf HO Hx Hw Ho]
  · isplitr; · iexact HR
    isplitl [HS]; · iexact HS
    isplitl [HO]; · iexact HO
    isplitl [Hx]; · unfold xPt; iexact Hx
    isplitl [Hw]; · unfold wPt; iexact Hw
    isplitl [Hf] <;> iassumption
  iintro ⟨HO, HF, Hx, Hw, Hc, Ho⟩
  unfold Done' Φ₁ xPt wPt
  isplitl [Hc HF]
  · isplitl [Hc] <;> iassumption
  isplitl [HO]
  · iapply (owes_out m ρ c); iexact HO
  isplitl [Hx]
  · iapply (held_of c cc0_stg0_0 (xstg m ρ c)); iexact Hx
  isplitl [Hw]
  · iapply (held_of c cc0_stg1_0 (wstg m ρ c)); iexact Hw
  · iapply (held_of c cc0_stg2_0 (outF m ρ c)); iexact Ho

theorem progK_eq : cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 cc0_scratch3 cc0_scratch4
    = .op .deviceId fun c => progK (F := F) ops (places c) := body_eq ops

set_option maxRecDepth 100000 in
theorem obligation (c : Dev nD) : BodyObligation (dats (F := F) m ρ 0 c) (defs₀ (F := F)) 𝒱₀ () Set.univ := fun t => by
  rw [fin_N0 t]
  rw [bigSep_W0 (M := 𝕄), bigSep_W0 (M := 𝕄)]
  simp only [owns_staged]
  show Pre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 cc0_scratch3 cc0_scratch4) (fun _ => Done' m ρ c)
  rw [progK_eq]
  exact sound m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' marks
  iintro ⟨-, Hlev, Hcr, -, ⟨%K, ⟨HI, HR⟩, Ha, Hp⟩⟩
  imodintro
  unfold start
  isplitl
  · isplitl [HI HR Hlev]
    · iexists K
      unfold recs
      isplitl [HI]; · iexact HI
      isplitl [HR] <;> iassumption
    iapply (start_of (F := F) c)
    isplitl [Ha]; · iexact Ha
    isplitl [Hp] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ Finish
  iintro ⟨Hr, HzB, HzR, HzS⟩
  isplitl [HzB]; · iexact HzB
  isplitl [HzS HzR]
  · isplitl [HzS] <;> iassumption
  iexists (gath m ρ); iexact Hr

theorem lv_staging : ∀ (c : Dev nD) (w : Fin 3) (s : Fin (spec0 w).nbuf), lv ((c : Thread nD τ), .dma ((spec0 w).sem s)) () = 0 := by
  decide +kernel

theorem waits (c : Dev nD) : (levAts L lv : sProp 𝕄) ⊢ Pipeline.cellsWaits cfgs (dats m ρ) () 0 c :=
  Pipeline.cellsWaits_intro cfgs (dats m ρ) () 0 c fun w s t => mayWait c _ _ (by
    rw [show lv ((c : Thread nD τ), .dma (((cfgs 0).win w).sem s)) () = 0 from lv_staging c w s]
    rcases t with ⟨_ | _, ht⟩
    · exact Above.start c
    · exact Above.zero 0)

/-! ## The run -/

/-- What an array holds at the end. -/
def final (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = final m ρ c w

set_option maxRecDepth 100000 in
/-- From any memory with its counters at zero, every fair execution ends, with every array as computed and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : final m ρ c (0 : Fin 3) = m ((c : Thread nD τ).loc main_arg0) :=
  (dats (F := F) m ρ 0 c).arrAt_in (0 : Fin 3) rfl _

theorem final_w (c : Dev nD) : final m ρ c (1 : Fin 3) = m ((c : Thread nD τ).loc main_arg1) :=
  (dats (F := F) m ρ 0 c).arrAt_in (1 : Fin 3) rfl _

end Cert.KernelIdeal.Ring

end

end
-- ==== Proof.KernelIdeal.Value.lean ====
/- The result's value, over exact arithmetic. -/
module

public import proofs.«01_k».proof.Proof.KernelIdeal.Run
public import proofs.«01_k».proof.Proof.Gen.ReferenceIdeal.Run
public import Idealize.ShloMosaic.Lib.Pointwise
public import Idealize.ShloMosaic.Lib.Layout
public import Idealize.ShloMosaic.Lib.Pipeline.Value

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## The arrays and the staging buffers -/

theorem xstg_eq (c : Dev nD) : xstg m ρ c = m ((c : Thread nD τ).loc main_arg0) := by
  unfold xstg
  show (fun i => m ((c : Thread nD τ).loc main_arg0) ((win0_0.blk (0 : Fin 1)).view.emb i)) = _
  funext i
  refine congrArg _ (funext fun a => Fin.ext ?_)
  match a with
  | ⟨0, _⟩ => show 0 * 128 + 1 * (i 0).val = (i 0).val; omega
  | ⟨1, _⟩ => show 0 * 4096 + 1 * (i 1).val = (i 1).val; omega

theorem wstg_eq (c : Dev nD) : wstg m ρ c = m ((c : Thread nD τ).loc main_arg1) := by
  unfold wstg
  show (fun i => m ((c : Thread nD τ).loc main_arg1) ((win0_1.blk (0 : Fin 1)).view.emb i)) = _
  funext i
  refine congrArg _ (funext fun a => Fin.ext ?_)
  match a with
  | ⟨0, _⟩ => show 0 * 4096 + 1 * (i 0).val = (i 0).val; omega
  | ⟨1, _⟩ => show 0 * 64 + 1 * (i 1).val = (i 1).val; omega

theorem out_emb (t : Fin cfg0.N) (i : S4096x64.Idx) : ((cfg0.win (2 : Fin 3)).blk t).view.emb i = i := by
  obtain rfl := fin_N0 t
  refine funext fun a => Fin.ext ?_
  match a with
  | ⟨0, _⟩ => show 0 * 4096 + 1 * (i 0).val = (i 0).val; omega
  | ⟨1, _⟩ => show 0 * 64 + 1 * (i 1).val = (i 1).val; omega

theorem final_out (c : Dev nD) : final m ρ c (2 : Fin 3) = outF m ρ c :=
  (dats m ρ 0 c).arrAt_eq_of_cover (2 : Fin 3) (outF m ρ c)
    (fun t _ => by
      obtain rfl := fin_N0 t
      funext i
      show outF m ρ c i = outF m ρ c (((cfg0.win (2 : Fin 3)).blk t0_0).view.emb i)
      rw [out_emb])
    fun i => ⟨t0_0, flush0_2 _, Finset.mem_map.mpr ⟨i, Finset.mem_univ _, out_emb t0_0 i⟩⟩

/-! ## The product, row by row and column by column -/

/-- The shapes of the whole arrays. -/
abbrev XS : Shape := ⟨2, ![4096, 4096]⟩
abbrev WS : Shape := ⟨2, ![4096, 2048]⟩

/-- A row of one array against a column of another, never below zero. -/
def dot (a b : Fin 4096 → EReal) : EReal := max (∑ k : Fin 4096, a k * b k) 0

/-- The whole result. -/
def product (X : XS.Idx → EReal) (Y : WS.Idx → EReal) : WS.Idx → EReal :=
  fun i => dot (fun k => X (ix2 (i 0) k)) fun k => Y (ix2 k (i 1))

theorem rows_apply (x : FVec Ideal S128x4096 .bf16) (w : FVec Ideal S4096x64 .bf16) (r : Fin 128) (l : Fin 64) :
    rowsOf (F := Ideal) (k0_pay1 (F := Ideal) x) w (ix2 r l) = dot (fun k => x (ix2 r k)) fun k => w (ix2 k l) := by
  pointwise [rowsOf, k0_pay1, k0_pay2, dot]

/-- The reference's operations give the same. -/
theorem reference_eq (X : FVec Ideal Cert.ReferenceIdeal.S4096x4096 .bf16) (Y : FVec Ideal Cert.ReferenceIdeal.S4096x2048 .bf16) :
    maximumf (extf .f32 (truncf .bf16 (Host.dotGeneral (F := Ideal) Cert.ReferenceIdeal.dot_S4096x4096_S4096x2048_S4096x2048_1_0_0_1_n_n none X Y) Cert.ReferenceIdeal.Gen.bitsLt_bf16_f32) Cert.ReferenceIdeal.Gen.bitsLt_bf16_f32)
      (broadcastInDim Cert.ReferenceIdeal.S4096x2048 ![] Cert.ReferenceIdeal.Gen.bcast_S_S4096x2048 (constant (F := Ideal) Cert.ReferenceIdeal.S_ .f32 0x00000000#32)) = product X Y := by
  funext i
  idx_vars i
  pointwise [product, dot]

/-- Device `c`'s result is its columns of the whole result. -/
theorem outF_block (m : (ℓ : Loc nD τ sig) → Buf (Elt Ideal) ℓ) (ρ : Dev nD → PrngReg) (X : XS.Idx → EReal) (Y : WS.Idx → EReal)
    (hX : ∀ c : Dev nD, m ((c : Thread nD τ).loc main_arg0) = Layout.block ⟨2, ![128, 4096]⟩ XS 0 32 c X)
    (hY : ∀ c : Dev nD, m ((c : Thread nD τ).loc main_arg1) = Layout.block ⟨2, ![4096, 64]⟩ WS 1 32 c Y) (c : Dev nD) :
    outF (F := Ideal) m ρ c = Layout.block ⟨2, ![4096, 64]⟩ WS 1 32 c (product X Y) := by
  funext i
  have hi : (i 0).val < 4096 := (i 0).isLt
  have e : inRows i = ix2 ⟨(i 0).val % 128, Nat.mod_lt _ (by decide)⟩ ⟨(i 1).val, (i 1).isLt⟩ := by
    funext a
    match a with
    | ⟨0, _⟩ => rfl
    | ⟨1, _⟩ => rfl
  unfold outF
  rw [xstg_eq, wstg_eq, hX, hY, e]
  refine (rows_apply _ _ _ _).trans ?_
  rw [Layout.block_apply]
  unfold product
  refine congrArg₂ dot (funext fun k => ?_) (funext fun k => ?_)
  · rw [Layout.block_apply]
    refine congrArg X (funext fun a => Fin.ext ?_)
    match a with
    | ⟨0, _⟩ => show (i 0).val / 128 * 128 + (i 0).val % 128 = (i 0).val; omega
    | ⟨1, _⟩ => rfl
  · rw [Layout.block_apply]
    refine congrArg Y (funext fun a => Fin.ext ?_)
    match a with
    | ⟨0, _⟩ => rfl
    | ⟨1, _⟩ => rfl

end Cert.KernelIdeal.Ring

end

end
-- ==== Proof.lean ====
/- The proof of every claim: the two programs run and keep their arguments, so does the reference, and the result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ =>
  (θ_run Cert.Kernel.defs _ _).mono
    (fun _ h => ⟨fun c => ⟨(h.1 c (0 : Fin 3)).trans (Cert.Kernel.Ring.final_x m ρ c), (h.1 c (1 : Fin 3)).trans (Cert.Kernel.Ring.final_w m ρ c)⟩, h.2⟩)
    (Cert.Kernel.Ring.run_main (F := Bits) m ρ)

theorem frame_ideal : Cert.quiescent_KernelIdeal := fun m ρ _ =>
  (θ_run Cert.KernelIdeal.defs _ _).mono
    (fun _ h => ⟨fun c => ⟨(h.1 c (0 : Fin 3)).trans (Cert.KernelIdeal.Ring.final_x m ρ c), (h.1 c (1 : Fin 3)).trans (Cert.KernelIdeal.Ring.final_w m ρ c)⟩, h.2⟩)
    (Cert.KernelIdeal.Ring.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with its columns of the reference's result. -/
theorem value : Cert.algebraic_KernelIdeal_ReferenceIdeal := by
  intro m ρ m' ρ' _ hm
  refine ⟨Cert.KernelIdeal.Ring.product (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, ?_, ?_⟩) (Cert.KernelIdeal.Ring.run_main (F := Ideal) m ρ)
    · exact ((h.1 c (2 : Fin 3)).trans (Cert.KernelIdeal.Ring.final_out m ρ c)).trans
        (Cert.KernelIdeal.Ring.outF_block m ρ _ _ (fun c => (hm c).1) (fun c => (hm c).2) c)
    · exact (h.1 c (0 : Fin 3)).trans (Cert.KernelIdeal.Ring.final_x m ρ c)
    · exact (h.1 c (1 : Fin 3)).trans (Cert.KernelIdeal.Ring.final_w m ρ c)
  · refine (θ_run Cert.ReferenceIdeal.defs _ _).mono (fun r h => ⟨?_, (h 0).2.1, (h 0).2.2⟩) (Cert.ReferenceIdeal.Value.run (F := Ideal) m' ρ')
    exact (h 0).1.trans (Cert.KernelIdeal.Ring.reference_eq _ _)

theorem claim : Cert.Claim :=
  ⟨Cert.Kernel.Gen.facts, Cert.KernelIdeal.Gen.facts, Cert.ReferenceIdeal.Gen.facts, frame_kernel, frame_ideal, frame_reference, trivial, value⟩

end Cert.Proof

end
